-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x64 : Shape := ⟨2, ![128, 64]⟩
abbrev S64x100000 : Shape := ⟨2, ![64, 100000]⟩
abbrev S100000 : Shape := ⟨1, ![100000]⟩
abbrev S100000x128 : Shape := ⟨2, ![100000, 128]⟩
abbrev S13x1x128 : Shape := ⟨3, ![13, 1, 128]⟩
abbrev S64x8192 : Shape := ⟨2, ![64, 8192]⟩
abbrev S8192 : Shape := ⟨1, ![8192]⟩
abbrev S8192x128 : Shape := ⟨2, ![8192, 128]⟩
abbrev S1x1x128 : Shape := ⟨3, ![1, 1, 128]⟩
abbrev S1x8192 : Shape := ⟨2, ![1, 8192]⟩
abbrev S65x8192 : Shape := ⟨2, ![65, 8192]⟩
abbrev S128x1 : Shape := ⟨2, ![128, 1]⟩
abbrev S128x65 : Shape := ⟨2, ![128, 65]⟩
abbrev S128 : Shape := ⟨1, ![128]⟩
abbrev S1x128 : Shape := ⟨2, ![1, 128]⟩
abbrev S16 : Shape := ⟨1, ![16]⟩
abbrev S_ : Shape := ⟨0, ![]⟩
abbrev S1x1x16 : Shape := ⟨3, ![1, 1, 16]⟩
abbrev S128x100000 : Shape := ⟨2, ![128, 100000]⟩

abbrev nBuf : Table → Nat
  | .hbm => 8
  | .local .tc .vmem => 11
  | .local .scVector .vmem => 3
  | _ => 0

abbrev bufTy : (tb : Table) → Fin (nBuf tb) → BufTy
  | .hbm, ⟨0, _⟩ => ⟨S128x64, .f32⟩
  | .hbm, ⟨1, _⟩ => ⟨S64x100000, .f32⟩
  | .hbm, ⟨2, _⟩ => ⟨S100000, .f32⟩
  | .hbm, ⟨3, _⟩ => ⟨S100000x128, .f32⟩
  | .hbm, ⟨4, _⟩ => ⟨S13x1x128, .f32⟩
  | .hbm, ⟨5, _⟩ => ⟨S13x1x128, .i32⟩
  | .hbm, ⟨6, _⟩ => ⟨S128, .i32⟩
  | .hbm, ⟨7, _⟩ => ⟨S128x100000, .f32⟩
  | .local .tc .vmem, ⟨0, _⟩ => ⟨S64x8192, .f32⟩
  | .local .tc .vmem, ⟨1, _⟩ => ⟨S64x8192, .f32⟩
  | .local .tc .vmem, ⟨2, _⟩ => ⟨S128x64, .f32⟩
  | .local .tc .vmem, ⟨3, _⟩ => ⟨S8192, .f32⟩
  | .local .tc .vmem, ⟨4, _⟩ => ⟨S8192, .f32⟩
  | .local .tc .vmem, ⟨5, _⟩ => ⟨S8192x128, .f32⟩
  | .local .tc .vmem, ⟨6, _⟩ => ⟨S8192x128, .f32⟩
  | .local .tc .vmem, ⟨7, _⟩ => ⟨S1x1x128, .f32⟩
  | .local .tc .vmem, ⟨8, _⟩ => ⟨S1x1x128, .f32⟩
  | .local .tc .vmem, ⟨9, _⟩ => ⟨S1x1x128, .i32⟩
  | .local .tc .vmem, ⟨10, _⟩ => ⟨S1x1x128, .i32⟩
  | .local .scVector .vmem, ⟨0, _⟩ => ⟨S13x1x128, .f32⟩
  | .local .scVector .vmem, ⟨1, _⟩ => ⟨S13x1x128, .i32⟩
  | .local .scVector .vmem, ⟨2, _⟩ => ⟨S16, .i32⟩
  | _, _ => ⟨S128x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev main_v0_1_scv : Ref sig .scVector := ⟨.hbm, 4, rfl⟩
abbrev main_v0_2_scv : Ref sig .scVector := ⟨.hbm, 5, rfl⟩
abbrev main_v1_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c12_i32 : BitVec 32 := 12#32
  let v10 : BitVec 1 := Scalar.cmpi .ne arg0 c12_i32
  let v11 : BitVec 32 := Scalar.extui v10
  let c0_i32 : BitVec 32 := 0#32
  let v12 : BitVec 1 := Scalar.cmpi .ne v11 c0_i32
  v12

def k0_cond2 (i : grid0.Coords) : BitVec 1 :=
  let arg0 : BitVec 32 := BitVec.ofNat 32 (i 0).val
  let c12_i32_7 : BitVec 32 := 12#32
  let v13 : BitVec 1 := Scalar.cmpi .eq arg0 c12_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![1, 16], ![false, false]⟩

def k1_cond1 (i : grid1.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k1_off1 (i : grid1.Coords) : Fin 3 → Nat :=
  let c0_i32_0 : BitVec 32 := 0#32
  let v4 : Index := Scalar.indexCast c0_i32_0
  let c0_i32_1 : BitVec 32 := 0#32
  let v5 : Index := Scalar.indexCast c0_i32_1
  let arg1 : BitVec 32 := BitVec.ofNat 32 (i 1).val
  let c16_i32 : BitVec 32 := 16#32
  let v3 : BitVec 32 := Scalar.muli arg1 c16_i32
  let v6 : Index := Scalar.indexCast v3
  ![0, 0, v6.toNat]
def k1_off2 (i : grid1.Coords) : Fin 3 → Nat :=
  let c1_i32 : BitVec 32 := 1#32
  let v14 : Index := Scalar.indexCast c1_i32
  let c0_i32_4 : BitVec 32 := 0#32
  let v15 : Index := Scalar.indexCast c0_i32_4
  let arg1 : BitVec 32 := BitVec.ofNat 32 (i 1).val
  let c16_i32 : BitVec 32 := 16#32
  let v3 : BitVec 32 := Scalar.muli arg1 c16_i32
  let v16 : Index := Scalar.indexCast v3
  ![1, 0, v16.toNat]
def k1_off3 (i : grid1.Coords) : Fin 3 → Nat :=
  let c2_i32 : BitVec 32 := 2#32
  let v27 : Index := Scalar.indexCast c2_i32
  let c0_i32_7 : BitVec 32 := 0#32
  let v28 : Index := Scalar.indexCast c0_i32_7
  let arg1 : BitVec 32 := BitVec.ofNat 32 (i 1).val
  let c16_i32 : BitVec 32 := 16#32
  let v3 : BitVec 32 := Scalar.muli arg1 c16_i32
  let v29 : Index := Scalar.indexCast v3
  ![2, 0, v29.toNat]
def k1_off4 (i : grid1.Coords) : Fin 3 → Nat :=
  let c3_i32 : BitVec 32 := 3#32
  let v40 : Index := Scalar.indexCast c3_i32
  let c0_i32_10 : BitVec 32 := 0#32
  let v41 : Index := Scalar.indexCast c0_i32_10
  let arg1 : BitVec 32 := BitVec.ofNat 32 (i 1).val
  let c16_i32 : BitVec 32 := 16#32
  let v3 : BitVec 32 := Scalar.muli arg1 c16_i32
  let v42 : Index := Scalar.indexCast v3
  ![3, 0, v42.toNat]
def k1_off5 (i : grid1.Coords) : Fin 3 → Nat :=
  let c4_i32 : BitVec 32 := 4#32
  let v53 : Index := Scalar.indexCast c4_i32
  let c0_i32_13 : BitVec 32 := 0#32
  let v54 : Index := Scalar.indexCast c0_i32_13
  let arg1 : BitVec 32 := BitVec.ofNat 32 (i 1).val
  let c16_i32 : BitVec 32 := 16#32
  let v3 : BitVec 32 := Scalar.muli arg1 c16_i32
  let v55 : Index := Scalar.indexCast v3
  ![4, 0, v55.toNat]
def k1_off6 (i : grid1.Coords) : Fin 3 → Nat :=
  let c5_i32 : BitVec 32 := 5#32
  let v66 : Index := Scalar.indexCast c5_i32
  let c0_i32_16 : BitVec 32 := 0#32
  let v67 : Index := Scalar.indexCast c0_i32_16
  let arg1 : BitVec 32 := BitVec.ofNat 32 (i 1).val
  let c16_i32 : BitVec 32 := 16#32
  let v3 : BitVec 32 := Scalar.muli arg1 c16_i32
  let v68 : Index := Scalar.indexCast v3
  ![5, 0, v68.toNat]
def k1_off7 (i : grid1.Coords) : Fin 3 → Nat :=
  let c6_i32 : BitVec 32 := 6#32
  let v79 : Index := Scalar.indexCast c6_i32
  let c0_i32_19 : BitVec 32 := 0#32
  let v80 : Index := Scalar.indexCast c0_i32_19
  let arg1 : BitVec 32 := BitVec.ofNat 32 (i 1).val
  let c16_i32 : BitVec 32 := 16#32
  let v3 : BitVec 32 := Scalar.muli arg1 c16_i32
  let v81 : Index := Scalar.indexCast v3
  ![6, 0, v81.toNat]
def k1_off8 (i : grid1.Coords) : Fin 3 → Nat :=
  let c7_i32 : BitVec 32 := 7#32
  let v92 : Index := Scalar.indexCast c7_i32
  let c0_i32_22 : BitVec 32 := 0#32
  let v93 : Index := Scalar.indexCast c0_i32_22
  let arg1 : BitVec 32 := BitVec.ofNat 32 (i 1).val
  let c16_i32 : BitVec 32 := 16#32
  let v3 : BitVec 32 := Scalar.muli arg1 c16_i32
  let v94 : Index := Scalar.indexCast v3
  ![7, 0, v94.toNat]
def k1_off9 (i : grid1.Coords) : Fin 3 → Nat :=
  let c8_i32_25 : BitVec 32 := 8#32
  let v105 : Index := Scalar.indexCast c8_i32_25
  let c0_i32_26 : BitVec 32 := 0#32
  let v106 : Index := Scalar.indexCast c0_i32_26
  let arg1 : BitVec 32 := BitVec.ofNat 32 (i 1).val
  let c16_i32 : BitVec 32 := 16#32
  let v3 : BitVec 32 := Scalar.muli arg1 c16_i32
  let v107 : Index := Scalar.indexCast v3
  ![8, 0, v107.toNat]
def k1_off10 (i : grid1.Coords) : Fin 3 → Nat :=
  let c9_i32 : BitVec 32 := 9#32
  let v118 : Index := Scalar.indexCast c9_i32
  let c0_i32_29 : BitVec 32 := 0#32
  let v119 : Index := Scalar.indexCast c0_i32_29
  let arg1 : BitVec 32 := BitVec.ofNat 32 (i 1).val
  let c16_i32 : BitVec 32 := 16#32
  let v3 : BitVec 32 := Scalar.muli arg1 c16_i32
  let v120 : Index := Scalar.indexCast v3
  ![9, 0, v120.toNat]
def k1_off11 (i : grid1.Coords) : Fin 3 → Nat :=
  let c10_i32 : BitVec 32 := 10#32
  let v131 : Index := Scalar.indexCast c10_i32
  let c0_i32_32 : BitVec 32 := 0#32
  let v132 : Index := Scalar.indexCast c0_i32_32
  let arg1 : BitVec 32 := BitVec.ofNat 32 (i 1).val
  let c16_i32 : BitVec 32 := 16#32
  let v3 : BitVec 32 := Scalar.muli arg1 c16_i32
  let v133 : Index := Scalar.indexCast v3
  ![10, 0, v133.toNat]
def k1_off12 (i : grid1.Coords) : Fin 3 → Nat :=
  let c11_i32 : BitVec 32 := 11#32
  let v144 : Index := Scalar.indexCast c11_i32
  let c0_i32_35 : BitVec 32 := 0#32
  let v145 : Index := Scalar.indexCast c0_i32_35
  let arg1 : BitVec 32 := BitVec.ofNat 32 (i 1).val
  let c16_i32 : BitVec 32 := 16#32
  let v3 : BitVec 32 := Scalar.muli arg1 c16_i32
  let v146 : Index := Scalar.indexCast v3
  ![11, 0, v146.toNat]
def k1_off13 (i : grid1.Coords) : Fin 3 → Nat :=
  let c12_i32 : BitVec 32 := 12#32
  let v157 : Index := Scalar.indexCast c12_i32
  let c0_i32_38 : BitVec 32 := 0#32
  let v158 : Index := Scalar.indexCast c0_i32_38
  let arg1 : BitVec 32 := BitVec.ofNat 32 (i 1).val
  let c16_i32 : BitVec 32 := 16#32
  let v3 : BitVec 32 := Scalar.muli arg1 c16_i32
  let v159 : Index := Scalar.indexCast v3
  ![12, 0, v159.toNat]
def k1_off14 (i : grid1.Coords) : Fin 1 → Nat :=
  let arg1 : BitVec 32 := BitVec.ofNat 32 (i 1).val
  let c16_i32 : BitVec 32 := 16#32
  let v3 : BitVec 32 := Scalar.muli arg1 c16_i32
  ![v3.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x64 : Shape := ⟨2, ![128, 64]⟩
abbrev S64x100000 : Shape := ⟨2, ![64, 100000]⟩
abbrev S100000 : Shape := ⟨1, ![100000]⟩
abbrev S128x100000 : Shape := ⟨2, ![128, 100000]⟩
abbrev S1x100000 : Shape := ⟨2, ![1, 100000]⟩
abbrev S_ : Shape := ⟨0, ![]⟩
abbrev S128 : Shape := ⟨1, ![128]⟩

abbrev nBuf : Space → Nat
  | .hbm => 12
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S64x100000, .f32⟩
  | .hbm, ⟨2, _⟩ => ⟨S100000, .f32⟩
  | .hbm, ⟨3, _⟩ => ⟨S128x100000, .f32⟩
  | .hbm, ⟨4, _⟩ => ⟨S1x100000, .f32⟩
  | .hbm, ⟨5, _⟩ => ⟨S128x100000, .f32⟩
  | .hbm, ⟨6, _⟩ => ⟨S128x100000, .f32⟩
  | .hbm, ⟨7, _⟩ => ⟨S128x100000, .i32⟩
  | .hbm, ⟨8, _⟩ => ⟨S_, .f32⟩
  | .hbm, ⟨9, _⟩ => ⟨S_, .i32⟩
  | .hbm, ⟨10, _⟩ => ⟨S128, .f32⟩
  | .hbm, ⟨11, _⟩ => ⟨S128, .i32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Proof.TcBody.lean ====
/-
  The TensorCore kernel's body, run once: from its three inputs' staging buffers at any contents, the whole-block store of the
  logits' tile and, in the one of the two branches that the grid point takes, the stores of the tile's column maxima and of the
  rows that attain them first.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Frame
public import Idealize.ShloMosaic.Lib.Pipeline.ArrRel
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program and its resources -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs (defs₀ (F := F))
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds library: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## What a grid point stores -/

/-- The tile's column maxima: of the whole tile at every point but the last, of the rows inside the array there. -/
def tileMax (i : grid0.Coords) (w : Vec F S64x8192 .f32) (b : Vec F S8192 .f32) (x : Vec F S128x64 .f32) : FVec F S1x1x128 .f32 :=
  if k0_cond1 i = 1#1 then k0_pay3 w b x else k0_pay7 i w b x
/-- The rows of the whole array that attain them first. -/
def tileArg (i : grid0.Coords) (w : Vec F S64x8192 .f32) (b : Vec F S8192 .f32) (x : Vec F S128x64 .f32) : IVec S1x1x128 32 :=
  if k0_cond1 i = 1#1 then k0_pay4 i w b x else k0_pay8 i w b x

/-- The second branch runs exactly where the first does not. -/
theorem cond2_iff (i : grid0.Coords) : k0_cond2 i = 1#1 ↔ ¬ k0_cond1 i = 1#1 := by
  unfold k0_cond1 k0_cond2
  generalize BitVec.ofNat 32 (i 0).val = a
  by_cases h : a = 12#32
  · subst h; decide
  · have h1 : Scalar.cmpi .ne a 12#32 = 1#1 := by
      show BitVec.ofBool (a != 12#32) = 1#1
      rw [bne_iff_ne.mpr h]; rfl
    have h2 : Scalar.cmpi .eq a 12#32 = 0#1 := by
      show BitVec.ofBool (a == 12#32) = 0#1
      rw [beq_eq_false_iff_ne.mpr h]; rfl
    simp only [h1, h2]; decide

set_option maxHeartbeats 4000000 in
/-- The body's triple: from the three inputs' buffers and the three outputs' at any contents, to the inputs' as they were and the
    outputs' at the point's tile, maxima and argmaxima. -/
theorem tcRun (c : Dev nD) (i : grid0.Coords)
    (a1 : Memref sig .tc .vmem S64x8192 .f32) (h1 : a1.IsWhole) (a2 : Memref sig .tc .vmem S128x64 .f32) (h2 : a2.IsWhole)
    (a3 : Memref sig .tc .vmem S8192 .f32) (h3 : a3.IsWhole) (a4 : Memref sig .tc .vmem S8192x128 .f32) (h4 : a4.IsWhole)
    (a5 : Memref sig .tc .vmem S1x1x128 .f32) (h5 : a5.IsWhole) (a6 : Memref sig .tc .vmem S1x1x128 .i32) (h6 : a6.IsWhole)
    (w : Vec F S64x8192 .f32) (x : Vec F S128x64 .f32) (b : Vec F S8192 .f32)
    (Q : PUnit → sProp 𝕄) :
    iprop(owns (c : Thread nD τ) a1 fullShare w ∗ owns (c : Thread nD τ) a2 fullShare x ∗ owns (c : Thread nD τ) a3 fullShare b
        ∗ (∃ d, owns (c : Thread nD τ) a4 fullShare d) ∗ (∃ d, owns (c : Thread nD τ) a5 fullShare d) ∗ (∃ d, owns (c : Thread nD τ) a6 fullShare d)
        ∗ (iprop(owns (c : Thread nD τ) a1 fullShare w ∗ owns (c : Thread nD τ) a2 fullShare x ∗ owns (c : Thread nD τ) a3 fullShare b
            ∗ owns (c : Thread nD τ) a4 fullShare (k0_pay1 w b x) ∗ owns (c : Thread nD τ) a5 fullShare (tileMax i w b x)
            ∗ owns (c : Thread nD τ) a6 fullShare (tileArg i w b x)) -∗ Q ⟨⟩))
      ⊢ wp frame (wpE (defs₀ (F := F)) 𝒱₀ c none) Set.univ (cc0__tc_body i a1 h1 a2 h2 a3 h3 a4 h4 a5 h5 a6 h6) Q := by
  simp only [cc0__tc_body_eq_skeleton]; unfold cc0__tc_body_skel
  have r1 : ∀ f1 : a1.view.ty.Contents (Elt F), View.read (Elt F) a1.view f1 = w →
      View.readAt (Elt F) a1.view (Rect.unit ![0, 0] ![64, 8192] inb_S64x8192_S64x8192_0_0).toLoadRect f1 = w :=
    fun f1 e1 => (View.readAt_full a1.view f1 inb_S64x8192_S64x8192_0_0).trans e1
  have r2 : ∀ f2 : a2.view.ty.Contents (Elt F), View.read (Elt F) a2.view f2 = x →
      View.readAt (Elt F) a2.view (Rect.unit ![0, 0] ![128, 64] inb_S128x64_S128x64_0_0).toLoadRect f2 = x :=
    fun f2 e2 => (View.readAt_full a2.view f2 inb_S128x64_S128x64_0_0).trans e2
  have r3 : ∀ f3 : a3.view.ty.Contents (Elt F), View.read (Elt F) a3.view f3 = b →
      View.readAt (Elt F) a3.view (Rect.unit ![0] ![8192] inb_S8192_S8192_0).toLoadRect f3 = b :=
    fun f3 e3 => (View.readAt_full a3.view f3 inb_S8192_S8192_0).trans e3
  by_cases hc : k0_cond1 i = 1#1
  · have hc2 : ¬ k0_cond2 i = 1#1 := fun h => (cond2_iff i).mp h hc
    simp only [dif_pos hc, dif_neg hc2]
    unfold tileMax tileArg
    rw [if_pos hc, if_pos hc]
    unfold owns
    iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
    sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; refine (View.read_writes_full _ _ _ _ _).trans ?_; rw [r1 f1 e1, r2 f2 e2, r3 f3 e3]
    isplitl [H5]
    · iexists _; isplitr; swap; · iexact H5
      ipureintro; refine (View.read_writes_full _ _ _ _ _).trans ?_; rw [r1 f1 e1, r2 f2 e2, r3 f3 e3]
    iexists _; isplitr; swap; · iexact H6
    ipureintro; refine (View.read_writes_full _ _ _ _ _).trans ?_; rw [r1 f1 e1, r2 f2 e2, r3 f3 e3]
  · have hc2 : k0_cond2 i = 1#1 := (cond2_iff i).mpr hc
    simp only [dif_neg hc, dif_pos hc2]
    unfold tileMax tileArg
    rw [if_neg hc, if_neg hc]
    unfold owns
    iintro ⟨⟨%f1, %e1, H1⟩, ⟨%f2, %e2, H2⟩, ⟨%f3, %e3, H3⟩, ⟨%d4, %f4, -, H4⟩, ⟨%d5, %f5, -, H5⟩, ⟨%d6, %f6, -, H6⟩, Hk⟩
    sl_exec
    sl_step
    iapply Hk
    isplitl [H1]
    · iexists _; isplitr; swap; · iexact H1
      ipureintro; exact e1
    isplitl [H2]
    · iexists _; isplitr; swap; · iexact H2
      ipureintro; exact e2
    isplitl [H3]
    · iexists _; isplitr; swap; · iexact H3
      ipureintro; exact e3
    isplitl [H4]
    · iexists _; isplitr; swap; · iexact H4
      ipureintro; refine (View.read_writes_full _ _ _ _ _).trans ?_; rw [r1 f1 e1, r2 f2 e2, r3 f3 e3]
    isplitl [H5]
    · iexists _; isplitr; swap; · iexact H5
      ipureintro; refine (View.read_writes_full _ _ _ _ _).trans ?_; rw [r1 f1 e1, r2 f2 e2, r3 f3 e3]
    iexists _; isplitr; swap; · iexact H6
    ipureintro; refine (View.read_writes_full _ _ _ _ _).trans ?_; rw [r1 f1 e1, r2 f2 e2, r3 f3 e3]

end Cert.KernelIdeal.Hand

end
-- ==== Proof.TcRegion.lean ====
/-
  The TensorCore kernel's region: relational proof data of its pipeline (an input's staging buffer is left as it was found, an
  output's holds the point's tile, maxima or argmaxima of some fetched inputs), the body's obligation from the body's run, and the
  region as the launch enters and leaves it: the three results at contents every element of which is a tile's.
-/
module

public import proofs.«01_k».proof.Proof.TcBody

@[expose] public section

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles the points fetch -/

/-- The tile of `W` that point `t` fetches, over what the buffer held. -/
def wTile (t : Fin grid0.N) (A : S64x100000.Idx → Elt F .f32) (d : S64x8192.Idx → Elt F .f32) : Vec F S64x8192 .f32 :=
  win0_0.fill (grid0.coords t) d ((win0_0.blk t).view.read (Elt F) A)
/-- `x`, fetched whole. -/
def xTile (t : Fin grid0.N) (A : S128x64.Idx → Elt F .f32) (d : S128x64.Idx → Elt F .f32) : Vec F S128x64 .f32 :=
  win0_1.fill (grid0.coords t) d ((win0_1.blk t).view.read (Elt F) A)
/-- The tile of `b` that point `t` fetches, over what the buffer held. -/
def bTile (t : Fin grid0.N) (A : S100000.Idx → Elt F .f32) (d : S8192.Idx → Elt F .f32) : Vec F S8192 .f32 :=
  win0_2.fill (grid0.coords t) d ((win0_2.blk t).view.read (Elt F) A)

/-- What point `t` leaves in the logits' buffer. -/
def IsVals (t : Fin grid0.N) (x : S128x64.Idx → Elt F .f32) (W : S64x100000.Idx → Elt F .f32) (b : S100000.Idx → Elt F .f32)
    (X : S8192x128.Idx → Elt F .f32) : Prop :=
  ∃ d0 d1 d2, X = k0_pay1 (wTile t W d0) (bTile t b d2) (xTile t x d1)
/-- What point `t` leaves in the maxima's buffer. -/
def IsMax (t : Fin grid0.N) (x : S128x64.Idx → Elt F .f32) (W : S64x100000.Idx → Elt F .f32) (b : S100000.Idx → Elt F .f32)
    (X : S1x1x128.Idx → Elt F .f32) : Prop :=
  ∃ d0 d1 d2, X = tileMax (grid0.coords t) (wTile t W d0) (bTile t b d2) (xTile t x d1)
/-- What point `t` leaves in the argmaxima's buffer. -/
def IsArg (t : Fin grid0.N) (x : S128x64.Idx → Elt F .f32) (W : S64x100000.Idx → Elt F .f32) (b : S100000.Idx → Elt F .f32)
    (X : S1x1x128.Idx → Elt F .i32) : Prop :=
  ∃ d0 d1 d2, X = tileArg (grid0.coords t) (wTile t W d0) (bTile t b d2) (xTile t x d1)

/-- The array of transposed logits: each element one of its tile's. -/
def ValsOK (x : S128x64.Idx → Elt F .f32) (W : S64x100000.Idx → Elt F .f32) (b : S100000.Idx → Elt F .f32)
    (V : S100000x128.Idx → Elt F .f32) : Prop :=
  ∀ p : S100000x128.Idx, ∃ (t : Fin grid0.N) (y : S8192x128.Idx) (X : S8192x128.Idx → Elt F .f32),
    IsVals t x W b X ∧ (p 0).val = t.val * 8192 + (y 0).val ∧ (p 1).val = (y 1).val ∧ V p = X y
/-- The array of maxima: each element one of its tile's. -/
def MaxOK (x : S128x64.Idx → Elt F .f32) (W : S64x100000.Idx → Elt F .f32) (b : S100000.Idx → Elt F .f32)
    (V : S13x1x128.Idx → Elt F .f32) : Prop :=
  ∀ p : S13x1x128.Idx, ∃ (t : Fin grid0.N) (y : S1x1x128.Idx) (X : S1x1x128.Idx → Elt F .f32),
    IsMax t x W b X ∧ (p 0).val = t.val ∧ (p 2).val = (y 2).val ∧ V p = X y
/-- The array of argmaxima: each element one of its tile's. -/
def ArgOK (x : S128x64.Idx → Elt F .f32) (W : S64x100000.Idx → Elt F .f32) (b : S100000.Idx → Elt F .f32)
    (V : S13x1x128.Idx → Elt F .i32) : Prop :=
  ∀ p : S13x1x128.Idx, ∃ (t : Fin grid0.N) (y : S1x1x128.Idx) (X : S1x1x128.Idx → Elt F .i32),
    IsArg t x W b X ∧ (p 0).val = t.val ∧ (p 2).val = (y 2).val ∧ V p = X y

variable (m : (ℓ : Loc nD τ sig) → Buf (Elt F) ℓ)

/-! ## The proof data -/

/-- The three arguments on device `c`. -/
abbrev xA (c : Dev nD) : S128x64.Idx → Elt F .f32 := m ((c : Thread nD τ).loc main_arg0)
abbrev wA (c : Dev nD) : S64x100000.Idx → Elt F .f32 := m ((c : Thread nD τ).loc main_arg1)
abbrev bA (c : Dev nD) : S100000.Idx → Elt F .f32 := m ((c : Thread nD τ).loc main_arg2)

/-- The recorded waits at the lowest level, the pipeline's own among them. -/
def below (c : Dev nD) : Set (SemLoc sig × HIx 1) := {p | (K (F := F)).lev ((c : Thread nD τ), p.1) p.2 ≤ 0}

/-- What the body may leave in each window's buffer, of what it found there. -/
def leaves0 (c : Dev nD) : (w : Fin cfg0.W) → Fin cfg0.N → (Y X : (cfg0.win w).block.Idx → Elt F (cfg0.win w).elt) → Prop :=
  fun
  | 0 => fun _ Y X => X = Y
  | 1 => fun _ Y X => X = Y
  | 2 => fun _ Y X => X = Y
  | 3 => fun t _ X => IsVals t (xA m c) (wA m c) (bA m c) X
  | 4 => fun t _ X => IsMax t (xA m c) (wA m c) (bA m c) X
  | 5 => fun t _ X => IsArg t (xA m c) (wA m c) (bA m c) X
  | ⟨_ + 6, h⟩ => absurd h (Nat.not_lt.2 (Nat.le_add_left _ _))

/-- The pipeline's relational proof data on device `c`: nothing kept between points, the handshakes' debts carried along. -/
def rdat (c : Dev nD) : Pipeline.RDat τ (Elt F) (HIx 1) ℕ UU ℕ cfg0 c where
  A w := m ((cfg0.win w).arr.view.loc (c : Thread nD τ))
  after := leaves0 m c
  Φ _ := iprop(emp)
  q _ := fullShare
  owed _ := (K (F := F)).Otc c 0
  recorded _ := below (F := F) c

/-- The prefetched tables' admissible contents: the pipeline has no table. -/
abbrev adm : (p : Fin 1) → (pcfgs (F := F) p).Adm := fun p => (cfgs p).toPCfg_adm
def rdats : (p : Fin 1) → (c : Dev nD) → Pipeline.RDat τ (Elt F) (HIx 1) ℕ UU ℕ (Pipeline.pin (pcfgs (F := F)) adm p) c
  | 0 => rdat m

theorem finds_w (c : Dev nD) (t : Fin cfg0.N) (Y) (h : (rdat m c).Finds 0 t Y) : ∃ d, Y = wTile t (wA m c) d :=
  ((rdat m c).finds_of_fetch (fetch0_0 t) Y).mp h
theorem finds_b (c : Dev nD) (t : Fin cfg0.N) (Y) (h : (rdat m c).Finds 2 t Y) : ∃ d, Y = bTile t (bA m c) d :=
  ((rdat m c).finds_of_fetch (fetch0_2 t) Y).mp h
theorem finds_x (c : Dev nD) (t : Fin cfg0.N) (Y) (h : (rdat m c).Finds 1 t Y) : ∃ d, Y = xTile t (xA m c) d := by
  haveI : ∀ e, Nonempty (Elt F e) := fun e => inferInstance
  exact Pipeline.RDat.finds_in_eq_fetched (rdat m c) 1 rfl (fun _ _ _ => rfl) (fun _ _ _ h => h) t Y h

set_option maxHeartbeats 1000000 in
/-- The body's obligation: the run at the fetched inputs. -/
theorem body0 (c : Dev nD) : (rdat (F := F) m c).BodyObligation defs₀ 𝒱₀ (none : HIx 1) Set.univ := fun t Y hY => by
  obtain ⟨dw, hw⟩ := finds_w m c t _ (hY 0)
  obtain ⟨dx, hx⟩ := finds_x m c t _ (hY 1)
  obtain ⟨db, hb⟩ := finds_b m c t _ (hY 2)
  rw [bigSep_W0, bigSep_W0]
  refine triple_restated (tcRun (F := F) c (grid0.coords t) (st0_0 t) (hstage0_0 ((cfg0.slots t 0).cast nbuf0_0)) (st0_1 t)
    (hstage0_1 ((cfg0.slots t 1).cast nbuf0_1)) (st0_2 t) (hstage0_2 ((cfg0.slots t 2).cast nbuf0_2)) (st0_3 t)
    (hstage0_3 ((cfg0.slots t 3).cast nbuf0_3)) (st0_4 t) (hstage0_4 ((cfg0.slots t 4).cast nbuf0_4)) (st0_5 t)
    (hstage0_5 ((cfg0.slots t 5).cast nbuf0_5)) (Y 0) (Y 1) (Y 2) _) rfl ?_ (fun _ => .rfl)
  rw [show (rdat m c).Φ t.castSucc = iprop(emp) from rfl, show (rdat m c).Φ t.succ = iprop(emp) from rfl,
    show (rdat m c).owesAt none t.succ = (rdat m c).owesAt none t.castSucc from rfl]
  iintro ⟨-, HO, H0, H1, H2, H3, H4, H5⟩
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitr; · iempintro
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; exact ⟨dw, dx, db, by rw [← hw, ← hx, ← hb]⟩
  isplitl [H4]; · iexists _; isplitr; swap; · iexact H4
                  ipureintro; exact ⟨dw, dx, db, by rw [← hw, ← hx, ← hb]⟩
  iexists _; isplitr; swap; · iexact H5
  ipureintro; exact ⟨dw, dx, db, by rw [← hw, ← hx, ← hb]⟩

/-! ## The region -/

abbrev hb (c : Dev nD) (b : Ref sig .tc) (f : Buf (Elt F) ((c : Thread nD τ).loc b)) : sProp 𝕄 := ((c : Thread nD τ).loc b) ↦{fullShare} f

/-- What the core owes the handshakes, its recorded waits at the lowest level. -/
abbrev owesLow (c : Dev nD) : sProp 𝕄 :=
  iprop(∃ W, ⌜(K (F := F)).WBelow (T c) W 0⌝ ∗ owes (T c) ((K (F := F)).Otc c 0) W)

/-- The region is entered from its arrays at the launch memory, -/
abbrev regPre (c : Dev nD) : sProp 𝕄 :=
  iprop(hb c main_arg0 (m _) ∗ hb c main_arg1 (m _) ∗ hb c main_arg2 (m _) ∗ hb c main_v0_0 (m _) ∗ hb c main_v0_1 (m _) ∗ hb c main_v0_2 (m _)
    ∗ owesLow (F := F) c)
/-- and left with the arguments unchanged and the results at tiles' contents. -/
abbrev regPost (c : Dev nD) : sProp 𝕄 :=
  iprop(hb c main_arg0 (m _) ∗ hb c main_arg1 (m _) ∗ hb c main_arg2 (m _)
    ∗ (∃ f, ⌜ValsOK (xA m c) (wA m c) (bA m c) f⌝ ∗ hb c main_v0_0 f)
    ∗ (∃ f, ⌜MaxOK (xA m c) (wA m c) (bA m c) f⌝ ∗ hb c main_v0_1 f)
    ∗ (∃ f, ⌜ArgOK (xA m c) (wA m c) (bA m c) f⌝ ∗ hb c main_v0_2 f)
    ∗ owesLow (F := F) c)

theorem owes_in (c : Dev nD) (t : Fin (cfg0.N + 1)) : owesLow (F := F) c ⊢ ((rdat m c).owesAt none t : sProp 𝕄) := by
  unfold Pipeline.RDat.owesAt Pipeline.owesWithin Pipeline.RDat.bound
  iintro ⟨%W, %hW, HO⟩; iexists W; isplitr
  · ipureintro; exact fun p hp => Or.inl (hW p hp)
  · iexact HO
theorem owes_out (c : Dev nD) (t : Fin (cfg0.N + 1)) : ((rdat m c).owesAt none t : sProp 𝕄) ⊢ owesLow (F := F) c := by
  unfold Pipeline.RDat.owesAt Pipeline.owesWithin Pipeline.RDat.bound
  iintro ⟨%W, %hW, HO⟩; iexists W; isplitr
  · ipureintro; intro p hp
    rcases hW hp with h | ⟨w, s, h⟩
    · exact h
    · rw [h]; exact le_rfl
  · iexact HO

theorem share_full (c : Dev nD) (w) : (rdat (F := F) m c).share w = fullShare := by
  unfold Pipeline.RDat.share; exact ite_self _

/-- What holds of each element of what the points leave in an output's buffer, at the place of the array that the element is
    written to, holds of each element of the array after the run. -/
theorem arr_forall (c : Dev nD) (w : Fin cfg0.W) (hcov : (cfg0.win w).Covers) (harr : (cfg0.win w).arr.IsWhole) (hout : (cfg0.win w).isOut = true)
    (P : ((cfg0.win w).arr.view.loc (c.tc : Thread nD τ)).2.ty.Idx → Elt F ((cfg0.win w).arr.view.loc (c.tc : Thread nD τ)).2.ty.elt → Prop)
    (hP : ∀ t Y X, leaves0 m c w t Y X → ∀ y : ((cfg0.win w).xblock (cfg0.grid.coords t)).Idx,
      P (((cfg0.win w).blk t).view.emb y)
        (_root_.cast (congrArg (Elt F) ((cfg0.win w).blk t).view.elt_eq.symm) (X ((cfg0.win w).xinj (cfg0.grid.coords t) y))))
    (f) (h : (rdat (F := F) m c).ArrAt w cfg0.N f) (i) : P i (f i) := by
  haveI : ∀ e, Nonempty (Elt F e) := fun e => inferInstance
  obtain ⟨X, hX, hA⟩ := h.exists_exact
  have e := hA (Function.update (fun _ _ _ => Classical.arbitrary _) w X) (fun u _ _ => by rw [Function.update_self])
  rw [e]
  refine ((rdat (F := F) m c).withAfter _).arrAt_forall_of_covers w P hcov (fun t hf y => ?_) i harr
  obtain ⟨Y, _, hl⟩ := hX t t.isLt hf
  rw [Pipeline.RDat.withAfter_after, Function.update_self]
  exact hP t Y (X t) hl y

/-! An output's block index at a point, axis by axis. -/

theorem ix3_0 : ∀ t : Fin grid0.N, win0_3.index t 0 = t.val := by decide +kernel
theorem ix3_1 : ∀ t : Fin grid0.N, win0_3.index t 1 = 0 := by decide +kernel
theorem ix4_0 : ∀ t : Fin grid0.N, win0_4.index t 0 = t.val := by decide +kernel
theorem ix4_1 : ∀ t : Fin grid0.N, win0_4.index t 2 = 0 := by decide +kernel
theorem ix5_0 : ∀ t : Fin grid0.N, win0_5.index t 0 = t.val := by decide +kernel
theorem ix5_1 : ∀ t : Fin grid0.N, win0_5.index t 2 = 0 := by decide +kernel

/-- Each element of the logits' array, after the run, is one that a point left in its buffer. -/
theorem valsOK_of_arrAt (c : Dev nD) (f) (h : (rdat (F := F) m c).ArrAt 3 cfg0.N f) : ValsOK (xA m c) (wA m c) (bA m c) f := by
  refine fun p => arr_forall m c 3 (by decide +kernel) (arr_whole0 3) rfl
    (fun (p : S100000x128.Idx) (v : Elt F .f32) => ∃ (t : Fin grid0.N) (y : S8192x128.Idx) (X : S8192x128.Idx → Elt F .f32),
      IsVals t (xA m c) (wA m c) (bA m c) X ∧ (p 0).val = t.val * 8192 + (y 0).val ∧ (p 1).val = (y 1).val ∧ v = X y)
    (fun t Y X hl y => ⟨t, (cfg0.win 3).xinj (cfg0.grid.coords t) y, X, hl, ?_, ?_, ?_⟩) f h p
  · blk_simp
    rw [ix3_0 t]
  · blk_simp
    rw [ix3_1 t, Nat.zero_mul, Nat.zero_add]
  · blk_simp
/-- Each element of the maxima's array, after the run, is one that a point left in its buffer. -/
theorem maxOK_of_arrAt (c : Dev nD) (f) (h : (rdat (F := F) m c).ArrAt 4 cfg0.N f) : MaxOK (xA m c) (wA m c) (bA m c) f := by
  refine fun p => arr_forall m c 4 (by decide +kernel) (arr_whole0 4) rfl
    (fun (p : S13x1x128.Idx) (v : Elt F .f32) => ∃ (t : Fin grid0.N) (y : S1x1x128.Idx) (X : S1x1x128.Idx → Elt F .f32),
      IsMax t (xA m c) (wA m c) (bA m c) X ∧ (p 0).val = t.val ∧ (p 2).val = (y 2).val ∧ v = X y)
    (fun t Y X hl y => ⟨t, (cfg0.win 4).xinj (cfg0.grid.coords t) y, X, hl, ?_, ?_, ?_⟩) f h p
  · blk_simp
    rw [ix4_0 t]
  · blk_simp
    rw [ix4_1 t, Nat.zero_mul, Nat.zero_add]
  · blk_simp
/-- Each element of the argmaxima's array, after the run, is one that a point left in its buffer. -/
theorem argOK_of_arrAt (c : Dev nD) (f) (h : (rdat (F := F) m c).ArrAt 5 cfg0.N f) : ArgOK (xA m c) (wA m c) (bA m c) f := by
  refine fun p => arr_forall m c 5 (by decide +kernel) (arr_whole0 5) rfl
    (fun (p : S13x1x128.Idx) (v : Elt F .i32) => ∃ (t : Fin grid0.N) (y : S1x1x128.Idx) (X : S1x1x128.Idx → Elt F .i32),
      IsArg t (xA m c) (wA m c) (bA m c) X ∧ (p 0).val = t.val ∧ (p 2).val = (y 2).val ∧ v = X y)
    (fun t Y X hl y => ⟨t, (cfg0.win 5).xinj (cfg0.grid.coords t) y, X, hl, ?_, ?_, ?_⟩) f h p
  · blk_simp
    rw [ix5_0 t]
  · blk_simp
    rw [ix5_1 t, Nat.zero_mul, Nat.zero_add]
  · blk_simp

/-- A conjunction over no index is `emp`. -/
theorem bigSep_fin0 {M : Type} [URA M] (Φ : Fin 0 → sProp M) : bigSep Finset.univ Φ = BI.emp :=
  bigSep_univ_eq_bigSepL [] (by decide) (by decide) Φ

/-- The pipeline has no prefetched table. -/
theorem prefHeld_emp (c : Dev nD) (q) (pf) :
    (Pipeline.prefHeld (Ix := HIx 1) (Name := ℕ) (U := UU) (Lvl := ℕ) (Val := Elt F) (pcfgs (F := F) 0).pre c q pf : sProp 𝕄) = BI.emp :=
  bigSep_fin0 _

theorem Otc_none (c : Dev nD) (g : GSem nD τ sig) : (K (F := F)).Otc c 0 g none = 0 := by
  by_contra h
  have := SparseCore.Cfg.lev_of_Otc_pos (K := K (F := F)) (Nat.pos_of_ne_zero h)
  rw [SparseCore.Cfg.lev_none] at this; omega

set_option maxHeartbeats 1000000 in
def reg0 : Pipeline.RDat.RegionSeg (pcfgs (F := F)) adm (rdats m) (none : HIx 1) (defs₀ (F := F)) 𝒱₀ (K (F := F)).L (K (F := F)).lev 0 where
  win := winFacts0.to₀
  block_pos := block_pos0
  stage_whole := stage_whole0
  K := PEmpty
  osem k := k.elim
  ho := Pipeline.OwnSemFacts.none _
  hbody c := body0 m c
  hwaits c := Pipeline.RDat.cellsWaits_intro _ _ _ _ _ fun w s t => (K (F := F)).mayWait_none _ (Otc_none c)
  pre := regPre m
  post := regPost m
  X c := iprop(emp)
  Y c := iprop(emp)
  Z c := iprop(emp)
  hentry c := by
    rw [Pipeline.ownSems0_none, Pipeline.RDat.arrays_eq pcfgs adm (rdats m) 0 c arr_whole0 (share_full m c), bigSep_W0]
    iintro ⟨⟨H0, H1, H2, H3, H4, H5, HO⟩, -, -⟩
    imodintro
    isplitl [H0 H1 H2 H3 H4 H5]
    · isplitl [H1]; · iexact H1
      isplitl [H0]; · iexact H0
      isplitl [H2]; · iexact H2
      isplitl [H3]; · iexact H3
      isplitl [H4]; · iexact H4
      iexact H5
    isplitr
    · rw [prefHeld_emp]
      iempintro
    isplitl [HO]; · iapply (owes_in m c 0); iexact HO
    isplitr <;> iempintro
  hin c := by
    rw [show (rdats m 0 c).Φ 0 = iprop(emp) from rfl]
    iintro ⟨-, -, -⟩; iempintro
  hout c := by
    rw [show (rdats m 0 c).Φ (Fin.last _) = iprop(emp) from rfl, Pipeline.ownSems0_none]
    rw [show (Pipeline.scopedRest (Ix := HIx 1) (Name := ℕ) (U := UU) (Lvl := ℕ) (Val := Elt F) (Pipeline.pin (pcfgs (F := F)) adm 0).spec c : sProp 𝕄) = iprop(emp) from scopedRest0_eq c]
    iintro -
    isplitr; · iempintro
    isplitr <;> iempintro
  hexit c := by
    rw [Pipeline.RDat.arraysAt_eq pcfgs adm (rdats m) 0 c arr_whole0 (share_full m c), bigSep_W0]
    iintro ⟨⟨⟨%f0, %e0, H0⟩, ⟨%f1, %e1, H1⟩, ⟨%f2, %e2, H2⟩, ⟨%f3, %e3, H3⟩, ⟨%f4, %e4, H4⟩, ⟨%f5, %e5, H5⟩⟩, HO, -, -⟩
    have h0 : f0 = wA m c := by
      have := (rdat (F := F) m c).ArrAt_in 0 rfl cfg0.N
      exact (congrFun this f0).mp e0
    have h1 : f1 = xA m c := by
      have := (rdat (F := F) m c).ArrAt_in 1 rfl cfg0.N
      exact (congrFun this f1).mp e1
    have h2 : f2 = bA m c := by
      have := (rdat (F := F) m c).ArrAt_in 2 rfl cfg0.N
      exact (congrFun this f2).mp e2
    subst h0 h1 h2
    imodintro
    isplitl [H1]; · iexact H1
    isplitl [H0]; · iexact H0
    isplitl [H2]; · iexact H2
    isplitl [H3]
    · iexists f3; isplitr
      · ipureintro; exact valsOK_of_arrAt m c f3 e3
      · iexact H3
    isplitl [H4]
    · iexists f4; isplitr
      · ipureintro; exact maxOK_of_arrAt m c f4 e4
      · iexact H4
    isplitl [H5]
    · iexists f5; isplitr
      · ipureintro; exact argOK_of_arrAt m c f5 e5
      · iexact H5
    iapply (owes_out m c (Fin.last _)); iexact HO

end Cert.KernelIdeal.Hand

end
-- ==== Proof.Argmax.lean ====
/-
  The first index of a range at which a sequence of extended reals is greatest: it is unique, it is found by two folds over a block —
  the maximum, then the least index that attains it —, blocks merge by a strict comparison, and a fold over pairs of a value and an
  index, in any order, finds it too.
-/
module

public import Mathlib.Data.EReal.Basic
public import Mathlib.Data.Finset.Fold
public import Mathlib.Data.Finset.Lattice.Fold
public import Idealize.ShloMosaic.PureOps.Ideal.Laws
public import Idealize.ShloMosaic.Lib.Pointwise

@[expose] public section

noncomputable section

namespace Cert.Argmax

open Idealize.ShloMosaic

/-- `r` is the first index of `[a, b)` at which `V` is greatest, and `v` is `V`'s value there. -/
def IsFirst (V : ℕ → EReal) (a b : ℕ) (v : EReal) (r : ℕ) : Prop :=
  a ≤ r ∧ r < b ∧ V r = v ∧ (∀ n, a ≤ n → n < b → V n ≤ v) ∧ ∀ n, a ≤ n → n < r → V n < v

/-- The first index is unique. -/
theorem IsFirst.unique {V : ℕ → EReal} {a b : ℕ} {v w : EReal} {r s : ℕ} (h : IsFirst V a b v r) (h' : IsFirst V a b w s) : r = s := by
  obtain ⟨h1, h2, h3, h4, h5⟩ := h
  obtain ⟨g1, g2, g3, g4, g5⟩ := h'
  have e : v = w := le_antisymm (h3 ▸ g4 r h1 h2) (g3 ▸ h4 s g1 g2)
  subst e
  rcases lt_trichotomy r s with hl | hl | hl
  · exact absurd (g5 r h1 hl) (by rw [h3]; exact lt_irrefl _)
  · exact hl
  · exact absurd (h5 s g1 hl) (by rw [g3]; exact lt_irrefl _)

/-- Two adjacent ranges: the first index of the second is taken when its value is greater, -/
theorem IsFirst.take {V : ℕ → EReal} {a b c : ℕ} {v w : EReal} {r s : ℕ} (h : IsFirst V a b v r) (h' : IsFirst V b c w s) (hlt : v < w) :
    IsFirst V a c w s := by
  obtain ⟨h1, h2, h3, h4, h5⟩ := h
  obtain ⟨g1, g2, g3, g4, g5⟩ := h'
  refine ⟨by omega, g2, g3, fun n hn hc => ?_, fun n hn hs => ?_⟩
  · rcases lt_or_ge n b with hb | hb
    · exact (h4 n hn hb).trans hlt.le
    · exact g4 n hb hc
  · rcases lt_or_ge n b with hb | hb
    · exact (h4 n hn hb).trans_lt hlt
    · exact g5 n hb hs

/-- and that of the first is kept when it is not. -/
theorem IsFirst.keep {V : ℕ → EReal} {a b c : ℕ} {v w : EReal} {r s : ℕ} (h : IsFirst V a b v r) (h' : IsFirst V b c w s) (hle : ¬v < w) :
    IsFirst V a c v r := by
  obtain ⟨h1, h2, h3, h4, h5⟩ := h
  obtain ⟨g1, g2, g3, g4, g5⟩ := h'
  refine ⟨h1, by omega, h3, fun n hn hc => ?_, h5⟩
  rcases lt_or_ge n b with hb | hb
  · exact h4 n hn hb
  · exact (g4 n hb hc).trans (not_lt.1 hle)

/-- Values of `⊥` past the range change nothing. -/
theorem IsFirst.extend {V : ℕ → EReal} {a b c : ℕ} {v : EReal} {r : ℕ} (h : IsFirst V a b v r) (hbc : b ≤ c) (hV : ∀ n, b ≤ n → V n = ⊥) :
    IsFirst V a c v r := by
  obtain ⟨h1, h2, h3, h4, h5⟩ := h
  refine ⟨h1, by omega, h3, fun n hn hc => ?_, h5⟩
  rcases lt_or_ge n b with hb | hb
  · exact h4 n hn hb
  · rw [hV n hb]; exact bot_le

/-- The signed value of a small word. -/
theorem toInt_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

/-- The signed comparison of two small words. -/
theorem cmpi_slt_small {a b : ℕ} (ha : a < 2 ^ 31) (hb : b < 2 ^ 31) :
    IntOp.cmpi .slt (BitVec.ofNat 32 a) (BitVec.ofNat 32 b) = BitVec.ofBool (decide (a < b)) := by
  show BitVec.ofBool (BitVec.slt _ _) = _
  rw [BitVec.slt_eq_decide, toInt_small ha, toInt_small hb]
  simp only [Nat.cast_lt]

/-- The signed minimum of two words is the minimum of their signed values. -/
theorem toInt_minsi (a b : BitVec 32) : (IntOp.minsi a b).toInt = min a.toInt b.toInt := by
  unfold IntOp.minsi
  rw [BitVec.slt_eq_decide]
  split <;> rename_i h
  · rw [decide_eq_true_eq] at h; omega
  · rw [decide_eq_true_eq] at h; omega

/-- A fold of the signed minimum is the word of the family that is least. -/
theorem fold_minsi_eq {n : ℕ} (g : Fin n → BitVec 32) (z : BitVec 32) (r : Fin n) (hz : (g r).toInt ≤ z.toInt)
    (hg : ∀ s, (g r).toInt ≤ (g s).toInt) : Finset.univ.fold IntOp.minsi z g = g r := by
  apply BitVec.eq_of_toInt_eq
  rw [← Finset.fold_hom (op' := min) (m := BitVec.toInt) toInt_minsi]
  apply le_antisymm
  · rw [Finset.fold_min_le]; exact .inr ⟨r, Finset.mem_univ _, le_rfl⟩
  · rw [Finset.le_fold_min]; exact ⟨hz, fun s _ => hg s⟩

/-- A column of 8192 values: the fold of the maximum and the fold of the signed minimum over the rows that attain it find the first row
    at which the column is greatest. -/
theorem column_first (u : Fin 8192 → EReal) :
    ∃ r : Fin 8192, Finset.univ.fold IntOp.minsi 2147483647#32
        (fun s : Fin 8192 => if u s = Finset.univ.fold max ⊥ u then BitVec.ofNat 32 s.val else 8192#32) = BitVec.ofNat 32 r.val
      ∧ u r = Finset.univ.fold max ⊥ u ∧ (∀ s, u s ≤ u r) ∧ ∀ s, s < r → u s < u r := by
  obtain ⟨q, -, hq⟩ := Finset.exists_max_image Finset.univ u ⟨0, Finset.mem_univ _⟩
  have hM : Finset.univ.fold max ⊥ u = u q := by
    apply le_antisymm
    · rw [Finset.fold_max_le]; exact ⟨bot_le, fun s _ => hq s (Finset.mem_univ _)⟩
    · rw [Finset.le_fold_max]; exact .inr ⟨q, Finset.mem_univ _, le_rfl⟩
  obtain ⟨r, hr, hmin⟩ := Finset.exists_min_image (Finset.univ.filter fun s => u s = u q) id ⟨q, by simp⟩
  have hrq : u r = u q := (Finset.mem_filter.1 hr).2
  refine ⟨r, ?_, by rw [hM, hrq], fun s => hrq ▸ hq s (Finset.mem_univ _), fun s hs => ?_⟩
  · rw [hM]
    have e : (fun s : Fin 8192 => if u s = u q then BitVec.ofNat 32 s.val else 8192#32) r = BitVec.ofNat 32 r.val := if_pos hrq
    refine Eq.trans ?_ e
    have hi : (BitVec.ofNat 32 r.val).toInt = r.val := toInt_small (by omega)
    refine fold_minsi_eq _ _ r ?_ fun s => ?_
    · refine (congrArg BitVec.toInt e).trans_le ?_
      rw [hi, show (2147483647#32 : BitVec 32).toInt = 2147483647 by decide]; omega
    · refine (congrArg BitVec.toInt e).trans_le ?_
      rw [hi]
      show _ ≤ (if u s = u q then BitVec.ofNat 32 s.val else 8192#32).toInt
      split <;> rename_i h
      · rw [toInt_small (by omega)]
        have := hmin s (Finset.mem_filter.2 ⟨Finset.mem_univ _, h⟩)
        have : r.val ≤ s.val := this
        omega
      · rw [show (8192#32 : BitVec 32).toInt = 8192 by decide]; omega
  · refine lt_of_le_of_ne (hrq ▸ hq s (Finset.mem_univ _)) fun he => ?_
    have := hmin s (Finset.mem_filter.2 ⟨Finset.mem_univ _, he.trans hrq⟩)
    exact absurd hs (not_lt.2 this)

/-- A step that keeps one of the two pairs, the one of greater value or, at equal values, of smaller index, -/
def Picks (f : EReal × BitVec 32 → EReal × BitVec 32 → EReal × BitVec 32) : Prop :=
  ∀ a b, (f a b = a ∧ (b.1 < a.1 ∨ b.1 = a.1 ∧ a.2.toInt ≤ b.2.toInt)) ∨ (f a b = b ∧ (a.1 < b.1 ∨ a.1 = b.1 ∧ b.2.toInt ≤ a.2.toInt))

/-- folds to one of the pairs folded, and to the best of them. -/
theorem foldl_best {f : EReal × BitVec 32 → EReal × BitVec 32 → EReal × BitVec 32} (hf : Picks f) (L : List (EReal × BitVec 32)) :
    ∀ p0, L.foldl f p0 ∈ p0 :: L
      ∧ ∀ q ∈ p0 :: L, q.1 < (L.foldl f p0).1 ∨ q.1 = (L.foldl f p0).1 ∧ (L.foldl f p0).2.toInt ≤ q.2.toInt := by
  induction L with
  | nil =>
    intro p0
    refine ⟨by simp, fun q hq => ?_⟩
    rw [List.mem_singleton] at hq
    subst hq
    exact .inr ⟨rfl, le_rfl⟩
  | cons p L ih =>
    intro p0
    rw [List.foldl_cons]
    obtain ⟨h1, h2⟩ := ih (f p0 p)
    have tr : ∀ q : EReal × BitVec 32, (q.1 < (f p0 p).1 ∨ q.1 = (f p0 p).1 ∧ (f p0 p).2.toInt ≤ q.2.toInt) →
        q.1 < (L.foldl f (f p0 p)).1 ∨ q.1 = (L.foldl f (f p0 p)).1 ∧ (L.foldl f (f p0 p)).2.toInt ≤ q.2.toInt := by
      intro q hq
      rcases h2 _ (List.mem_cons_self ..) with h | ⟨h, h'⟩ <;> rcases hq with g | ⟨g, g'⟩
      · exact .inl (g.trans h)
      · exact .inl (g ▸ h)
      · exact .inl (h ▸ g)
      · exact .inr ⟨g.trans h, h'.trans g'⟩
    rcases hf p0 p with ⟨e, hb⟩ | ⟨e, hb⟩
    · refine ⟨?_, fun q hq => ?_⟩
      · rcases List.mem_cons.1 h1 with h | h
        · rw [h, e]; simp
        · exact List.mem_cons_of_mem _ (List.mem_cons_of_mem _ h)
      · rcases List.mem_cons.1 hq with rfl | hq
        · exact tr _ (.inr ⟨by rw [e], by rw [e]⟩)
        · rcases List.mem_cons.1 hq with rfl | hq
          · exact tr _ (by rw [e]; exact hb)
          · exact h2 q (List.mem_cons_of_mem _ hq)
    · refine ⟨?_, fun q hq => ?_⟩
      · rcases List.mem_cons.1 h1 with h | h
        · rw [h, e]; simp
        · exact List.mem_cons_of_mem _ (List.mem_cons_of_mem _ h)
      · rcases List.mem_cons.1 hq with rfl | hq
        · exact tr _ (by rw [e]; exact hb)
        · rcases List.mem_cons.1 hq with rfl | hq
          · exact tr _ (.inr ⟨by rw [e], by rw [e]⟩)
          · exact h2 q (List.mem_cons_of_mem _ hq)

/-- So the fold, from `(⊥, 0)`, over the pairs of the values and indices of `[0, N)`, in any order, ends at the first index at which the
    values are greatest. -/
theorem foldl_first {f : EReal × BitVec 32 → EReal × BitVec 32 → EReal × BitVec 32} (hf : Picks f) (L : List (EReal × BitVec 32))
    (V : ℕ → EReal) (N : ℕ) (hN : 0 < N) (hN' : N ≤ 2 ^ 31) (hL : ∀ p, p ∈ L ↔ ∃ n, n < N ∧ p = (V n, BitVec.ofNat 32 n)) :
    ∃ s, (L.foldl f (⊥, 0#32)).2 = BitVec.ofNat 32 s ∧ IsFirst V 0 N (L.foldl f (⊥, 0#32)).1 s := by
  obtain ⟨h1, h2⟩ := foldl_best hf L (⊥, 0#32)
  generalize L.foldl f (⊥, 0#32) = p at h1 h2 ⊢
  have key : ∃ s, s < N ∧ p = (V s, BitVec.ofNat 32 s) := by
    rcases List.mem_cons.1 h1 with h | h
    · refine ⟨0, hN, ?_⟩
      have := h2 (V 0, BitVec.ofNat 32 0) (List.mem_cons_of_mem _ ((hL _).2 ⟨0, hN, rfl⟩))
      rw [h] at this ⊢
      rcases this with h | ⟨h, -⟩
      · exact absurd h not_lt_bot
      · exact Prod.ext h.symm rfl
    · exact (hL _).1 h
  obtain ⟨s, hs, rfl⟩ := key
  refine ⟨s, rfl, Nat.zero_le _, hs, rfl, fun n _ hn => ?_, fun n _ hn => ?_⟩
  · rcases h2 _ (List.mem_cons_of_mem _ ((hL _).2 ⟨n, hn, rfl⟩)) with h | ⟨h, -⟩
    · exact h.le
    · exact h.le
  · rcases h2 _ (List.mem_cons_of_mem _ ((hL _).2 ⟨n, hn.trans hs, rfl⟩)) with h | ⟨-, h⟩
    · exact h
    · have h : (BitVec.ofNat 32 s).toInt ≤ (BitVec.ofNat 32 n).toInt := h
      rw [toInt_small (by omega), toInt_small (by omega)] at h
      omega

end Cert.Argmax

end
-- ==== Proof.TileValue.lean ====
/-
  The TensorCore kernel's tiles over the extended reals: each element of the values' tile inside the array is the row's product plus the
  bias, and a tile's maximum and argmaximum of a column are the value and the index at which the column is first greatest in the tile.
-/
module

public import proofs.«01_k».proof.Proof.TcRegion
public import proofs.«01_k».proof.Proof.Argmax

@[expose] public section

noncomputable section

namespace Cert.KernelIdeal.Hand

open Cert.KernelIdeal Cert.KernelIdeal.Gen
open Idealize.ShloMosaic Cert.Argmax

/-! ## The tiles at an index -/

theorem ixw_0 : ∀ t : Fin grid0.N, win0_0.index t 0 = 0 := by decide +kernel
theorem ixw_1 : ∀ t : Fin grid0.N, win0_0.index t 1 = t.val := by decide +kernel
theorem ixx_0 : ∀ t : Fin grid0.N, win0_1.index t 0 = 0 := by decide +kernel
theorem ixx_1 : ∀ t : Fin grid0.N, win0_1.index t 1 = 0 := by decide +kernel
theorem ixb_0 : ∀ t : Fin grid0.N, win0_2.index t 0 = t.val := by decide +kernel
theorem xsw_0 : ∀ t : Fin grid0.N, win0_0.xsize (grid0.coords t) 0 = 64 := by decide +kernel
theorem xsw_1 : ∀ t : Fin grid0.N, win0_0.xsize (grid0.coords t) 1 = min 8192 (100000 - t.val * 8192) := by decide +kernel
theorem xsx_0 : ∀ t : Fin grid0.N, win0_1.xsize (grid0.coords t) 0 = 128 := by decide +kernel
theorem xsx_1 : ∀ t : Fin grid0.N, win0_1.xsize (grid0.coords t) 1 = 64 := by decide +kernel
theorem xsb_0 : ∀ t : Fin grid0.N, win0_2.xsize (grid0.coords t) 0 = min 8192 (100000 - t.val * 8192) := by decide +kernel

/-- A column of `W`'s tile that is inside the array is the array's. -/
theorem wTile_apply (t : Fin grid0.N) (A : S64x100000.Idx → EReal) (d : S64x8192.Idx → EReal) (k : Fin 64) (r : Fin 8192)
    (h : t.val * 8192 + r.val < 100000) : wTile (F := Ideal) t A d (ix2 k r) = A (ix2 k ⟨t.val * 8192 + r.val, h⟩) := by
  unfold wTile Pipeline.Window.fill
  rw [dif_pos]
  · refine congrArg A (funext fun a => Fin.ext ?_)
    match a with
    | 0 =>
      blk_simp
      rw [ixw_0 t]
      show 0 * 64 + k.val = k.val
      omega
    | 1 =>
      blk_simp
      rw [ixw_1 t]
  · rw [Pipeline.Window.moved_iff]
    exact fun
      | 0 => (xsw_0 t).symm ▸ k.isLt
      | 1 => (xsw_1 t).symm ▸ (lt_min r.isLt (by show r.val < _; omega))

/-- An element of the bias's tile that is inside the array is the array's. -/
theorem bTile_apply (t : Fin grid0.N) (A : S100000.Idx → EReal) (d : S8192.Idx → EReal) (r : Fin 8192)
    (h : t.val * 8192 + r.val < 100000) : bTile (F := Ideal) t A d (ix1 r) = A (ix1 ⟨t.val * 8192 + r.val, h⟩) := by
  unfold bTile Pipeline.Window.fill
  rw [dif_pos]
  · refine congrArg A (funext fun a => Fin.ext ?_)
    match a with
    | 0 =>
      blk_simp
      rw [ixb_0 t]
  · rw [Pipeline.Window.moved_iff]
    exact fun
      | 0 => (xsb_0 t).symm ▸ (lt_min r.isLt (by show r.val < _; omega))

/-- The rows are fetched whole. -/
theorem xTile_apply (t : Fin grid0.N) (A : S128x64.Idx → EReal) (d : S128x64.Idx → EReal) (j : Fin 128) (k : Fin 64) :
    xTile (F := Ideal) t A d (ix2 j k) = A (ix2 j k) := by
  unfold xTile Pipeline.Window.fill
  rw [dif_pos]
  · refine congrArg A (funext fun a => Fin.ext ?_)
    match a with
    | 0 =>
      blk_simp
      rw [ixx_0 t]
      show 0 * 128 + j.val = j.val
      omega
    | 1 =>
      blk_simp
      rw [ixx_1 t]
      show 0 * 64 + k.val = k.val
      omega
  · rw [Pipeline.Window.moved_iff]
    exact fun
      | 0 => (xsx_0 t).symm ▸ j.isLt
      | 1 => (xsx_1 t).symm ▸ k.isLt

/-! ## The values -/

/-- The value of row `j` at column `n`: the row's product with the column, plus the column's bias. -/
def tv (x : S128x64.Idx → EReal) (W : S64x100000.Idx → EReal) (b : S100000.Idx → EReal) (j : Fin 128) (n : Fin 100000) : EReal :=
  (∑ k : Fin 64, x (ix2 j k) * W (ix2 k n)) + b (ix1 n)

/-- The same at every natural number, `⊥` past the array. -/
def col (x : S128x64.Idx → EReal) (W : S64x100000.Idx → EReal) (b : S100000.Idx → EReal) (j : Fin 128) (n : ℕ) : EReal :=
  if h : n < 100000 then tv x W b j ⟨n, h⟩ else ⊥

theorem negInf : Ideal.ofBits .f32 0xFF800000#32 = ⊥ := by simp [Ideal.ofBits, Ideal.ieee]

set_option maxRecDepth 16384 in
/-- An element of the tile the kernel computes: the product of the tile's column, the bias last, with the row, a one last. -/
theorem pay1_apply (w : FVec Ideal S64x8192 .f32) (b : FVec Ideal S8192 .f32) (x : FVec Ideal S128x64 .f32) (r : Fin 8192) (j : Fin 128) :
    k0_pay1 (F := Ideal) w b x (ix2 r j) = (∑ k : Fin 64, x (ix2 j k) * w (ix2 k r)) + b (ix1 r) := by
  pointwise [k0_pay1]
  congr 1
  · exact Finset.sum_congr rfl fun k _ => mul_comm _ _
  · simp

variable (x : S128x64.Idx → EReal) (W : S64x100000.Idx → EReal) (b : S100000.Idx → EReal)

/-- Inside the array it is the value. -/
theorem pay1_tile (t : Fin grid0.N) (d0 : S64x8192.Idx → EReal) (d1 : S128x64.Idx → EReal) (d2 : S8192.Idx → EReal) (r : Fin 8192)
    (j : Fin 128) (h : t.val * 8192 + r.val < 100000) :
    k0_pay1 (F := Ideal) (wTile t W d0) (bTile t b d2) (xTile t x d1) (ix2 r j) = tv x W b j ⟨t.val * 8192 + r.val, h⟩ := by
  rw [pay1_apply, tv, bTile_apply t b d2 r h]
  congr 1
  exact Finset.sum_congr rfl fun k _ => by rw [wTile_apply t W d0 k r h, xTile_apply]

/-- Every element of the values' array is the value. -/
theorem valsOK_apply (V : S100000x128.Idx → EReal) (h : ValsOK (F := Ideal) x W b V) (n : Fin 100000) (j : Fin 128) :
    V (ix2 n j) = tv x W b j n := by
  obtain ⟨t, y, X, ⟨d0, d1, d2, rfl⟩, h0, h1, hV⟩ := h (ix2 n j)
  have h0 : n.val = t.val * 8192 + (y 0).val := h0
  have h1 : j.val = (y 1).val := h1
  have hj : j = y 1 := Fin.ext h1
  rw [hV, eq_ix2 y, pay1_tile x W b t d0 d1 d2 (y 0) (y 1) (h0 ▸ n.isLt), hj]
  exact congrArg _ (Fin.ext h0.symm)

/-! ## A tile's maximum and argmaximum -/

/-- The point's number is its coordinate. -/
theorem coords_val : ∀ t : Fin grid0.N, (grid0.coords t 0).val = t.val := by decide +kernel
theorem N_val : grid0.N = 13 := by decide +kernel

/-- The row's index in the whole array. -/
theorem index_word (t r : ℕ) (ht : t < 13) (hr : r < 8192) :
    (IntOp.addi (BitVec.ofNat 32 r) (Scalar.muli (BitVec.ofNat 32 t) 8192#32)) = BitVec.ofNat 32 (t * 8192 + r) := by
  apply BitVec.eq_of_toNat_eq
  simp only [IntOp.addi, Scalar.muli, IntOp.muli, BitVec.toNat_add, BitVec.toNat_mul, BitVec.toNat_ofNat]
  omega

/-- What the two branches have in common: the maximum of a tile's column `u`, and the argmaximum as computed from it. -/
theorem tile_first (V : ℕ → EReal) (t : ℕ) (ht : t < 13) (u : Fin 8192 → EReal) (hu : ∀ r, u r = V (t * 8192 + r.val)) :
    ∃ n, IntOp.addi (Finset.univ.fold IntOp.minsi 2147483647#32
        (fun s : Fin 8192 => if u s = Finset.univ.fold max ⊥ u then BitVec.ofNat 32 s.val else 8192#32))
          (Scalar.muli (BitVec.ofNat 32 t) 8192#32) = BitVec.ofNat 32 n
      ∧ IsFirst V (t * 8192) ((t + 1) * 8192) (Finset.univ.fold max ⊥ u) n := by
  obtain ⟨r, h1, h2, h3, h4⟩ := column_first u
  refine ⟨t * 8192 + r.val, by rw [h1, index_word t r.val ht r.isLt], by omega, by omega, ?_, fun n hn hn' => ?_, fun n hn hn' => ?_⟩
  · rw [← hu, h2]
  · have := h3 ⟨n - t * 8192, by omega⟩
    rw [hu, h2] at this
    rwa [show t * 8192 + (n - t * 8192) = n by omega] at this
  · have := h4 ⟨n - t * 8192, by omega⟩ (by show n - t * 8192 < r.val; omega)
    rw [hu, h2] at this
    rwa [show t * 8192 + (n - t * 8192) = n by omega] at this

set_option maxRecDepth 16384 in
theorem pay2_apply (w : FVec Ideal S64x8192 .f32) (b : FVec Ideal S8192 .f32) (x : FVec Ideal S128x64 .f32) (p : Fin 1) (j : Fin 128) :
    k0_pay2 (F := Ideal) w b x (ix2 p j) = Finset.univ.fold max ⊥ (fun r : Fin 8192 => k0_pay1 (F := Ideal) w b x (ix2 r j)) := by
  pointwise [k0_pay2]
  rw [negInf]

set_option maxRecDepth 16384 in
theorem pay6_apply (i : grid0.Coords) (w : FVec Ideal S64x8192 .f32) (b : FVec Ideal S8192 .f32) (x : FVec Ideal S128x64 .f32) (p : Fin 1) (j : Fin 128) :
    k0_pay6 (F := Ideal) i w b x (ix2 p j) = Finset.univ.fold max ⊥ (fun r : Fin 8192 => k0_pay5 (F := Ideal) i w b x (ix2 r j)) := by
  pointwise [k0_pay6]
  rw [negInf]

set_option maxRecDepth 16384 in
theorem pay3_apply (w : FVec Ideal S64x8192 .f32) (b : FVec Ideal S8192 .f32) (x : FVec Ideal S128x64 .f32) (p : Fin 1) (q : Fin 1) (j : Fin 128) :
    k0_pay3 (F := Ideal) w b x (ix3 p q j) = Finset.univ.fold max ⊥ (fun r : Fin 8192 => k0_pay1 (F := Ideal) w b x (ix2 r j)) := by
  pointwise [k0_pay3]
  rw [pay2_apply]

set_option maxRecDepth 16384 in
theorem pay7_apply (i : grid0.Coords) (w : FVec Ideal S64x8192 .f32) (b : FVec Ideal S8192 .f32) (x : FVec Ideal S128x64 .f32) (p : Fin 1) (q : Fin 1) (j : Fin 128) :
    k0_pay7 (F := Ideal) i w b x (ix3 p q j) = Finset.univ.fold max ⊥ (fun r : Fin 8192 => k0_pay5 (F := Ideal) i w b x (ix2 r j)) := by
  pointwise [k0_pay7]
  rw [pay6_apply]

set_option maxRecDepth 16384 in
theorem pay4_apply (i : grid0.Coords) (w : FVec Ideal S64x8192 .f32) (b : FVec Ideal S8192 .f32) (x : FVec Ideal S128x64 .f32) (p : Fin 1) (q : Fin 1) (j : Fin 128) :
    k0_pay4 (F := Ideal) i w b x (ix3 p q j)
      = IntOp.addi (Finset.univ.fold IntOp.minsi 2147483647#32 (fun s : Fin 8192 =>
          if k0_pay1 (F := Ideal) w b x (ix2 s j) = Finset.univ.fold max ⊥ (fun r : Fin 8192 => k0_pay1 (F := Ideal) w b x (ix2 r j))
          then BitVec.ofNat 32 s.val else 8192#32))
        (Scalar.muli (BitVec.ofNat 32 (i 0).val) 8192#32) := by
  pointwise [k0_pay4]
  rw [pay2_apply]

set_option maxRecDepth 16384 in
theorem pay8_apply (i : grid0.Coords) (w : FVec Ideal S64x8192 .f32) (b : FVec Ideal S8192 .f32) (x : FVec Ideal S128x64 .f32) (p : Fin 1) (q : Fin 1) (j : Fin 128) :
    k0_pay8 (F := Ideal) i w b x (ix3 p q j)
      = IntOp.addi (Finset.univ.fold IntOp.minsi 2147483647#32 (fun s : Fin 8192 =>
          if k0_pay5 (F := Ideal) i w b x (ix2 s j) = Finset.univ.fold max ⊥ (fun r : Fin 8192 => k0_pay5 (F := Ideal) i w b x (ix2 r j))
          then BitVec.ofNat 32 s.val else 8192#32))
        (Scalar.muli (BitVec.ofNat 32 (i 0).val) 8192#32) := by
  pointwise [k0_pay8]
  rw [pay6_apply]

set_option maxRecDepth 16384 in
/-- The mask: a row past the array is `⊥`. -/
theorem pay5_apply (i : grid0.Coords) (w : FVec Ideal S64x8192 .f32) (b : FVec Ideal S8192 .f32) (x : FVec Ideal S128x64 .f32) (r : Fin 8192) (j : Fin 128) :
    k0_pay5 (F := Ideal) i w b x (ix2 r j) = if (i 0).val * 8192 + r.val < 100000 then k0_pay1 w b x (ix2 r j) else ⊥ := by
  pointwise [k0_pay5]
  rw [negInf]
  have hi : (i 0).val < 13 := (i 0).isLt
  have e : Scalar.subi 100000#32 (Scalar.muli (BitVec.ofNat 32 (i 0).val) 8192#32) = BitVec.ofNat 32 (100000 - (i 0).val * 8192) := by
    apply BitVec.eq_of_toNat_eq
    simp only [Scalar.subi, IntOp.subi, Scalar.muli, IntOp.muli, BitVec.toNat_sub, BitVec.toNat_mul, BitVec.toNat_ofNat]
    omega
  rw [e, cmpi_slt_small (by omega) (by omega)]
  by_cases h : (i 0).val * 8192 + r.val < 100000
  · rw [if_pos h, decide_eq_true (by omega)]
    rfl
  · rw [if_neg h, decide_eq_false (by omega)]
    rfl

/-- The comparison of the point's number with the last point's. -/
theorem cond1_ne (t : Fin grid0.N) : k0_cond1 (grid0.coords t) = 1#1 → t.val ≠ 12 := by
  revert t
  decide +kernel

/-- The tile's maximum and argmaximum of column `j`, whatever the buffers held past the arrays. -/
theorem tile_apply (t : Fin grid0.N) (d0 e0 : S64x8192.Idx → EReal) (d1 e1 : S128x64.Idx → EReal) (d2 e2 : S8192.Idx → EReal) (p : Fin 1) (q : Fin 1) (j : Fin 128) :
    ∃ n, tileArg (F := Ideal) (grid0.coords t) (wTile t W e0) (bTile t b e2) (xTile t x e1) (ix3 p q j) = BitVec.ofNat 32 n
      ∧ IsFirst (col x W b j) (t.val * 8192) ((t.val + 1) * 8192)
          (tileMax (F := Ideal) (grid0.coords t) (wTile t W d0) (bTile t b d2) (xTile t x d1) (ix3 p q j)) n := by
  have ht : t.val < 13 := N_val ▸ t.isLt
  have full : ∀ d0 d1 d2, k0_cond1 (grid0.coords t) = 1#1 → ∀ r : Fin 8192,
      k0_pay1 (F := Ideal) (wTile t W d0) (bTile t b d2) (xTile t x d1) (ix2 r j) = col x W b j (t.val * 8192 + r.val) := by
    intro d0 d1 d2 hc r
    have := cond1_ne t hc
    have h : t.val * 8192 + r.val < 100000 := by omega
    rw [pay1_tile x W b t d0 d1 d2 r j h, col, dif_pos h]
  have part : ∀ d0 d1 d2, ∀ r : Fin 8192,
      k0_pay5 (F := Ideal) (grid0.coords t) (wTile t W d0) (bTile t b d2) (xTile t x d1) (ix2 r j) = col x W b j (t.val * 8192 + r.val) := by
    intro d0 d1 d2 r
    rw [pay5_apply, coords_val, col]
    split <;> rename_i h
    · exact pay1_tile x W b t d0 d1 d2 r j h
    · rfl
  unfold tileArg tileMax
  split <;> rename_i hc
  · rw [pay4_apply, pay3_apply, coords_val]
    simp only [full _ _ _ hc]
    exact tile_first _ _ ht _ fun _ => rfl
  · rw [pay8_apply, pay7_apply, coords_val]
    simp only [part]
    exact tile_first _ _ ht _ fun _ => rfl

end Cert.KernelIdeal.Hand

end
-- ==== Proof.Reference.lean ====
/-
  The reference's run: a straight line of host operations. It ends with its arguments as they were, the values the product plus the
  bias, the actions the arg-max of the values, and every semaphore zero.
-/
module

public import proofs.«01_k».proof.Proof.Gen.ReferenceIdeal
public import Idealize.ShloMosaic.PureOps.Ideal
public import Idealize.ShloMosaic.Lib.Claim
public import Idealize.ShloMosaic.Lib.Quiescent

@[expose] public section

noncomputable section

namespace Cert.ReferenceIdeal.Hand

open Cert.ReferenceIdeal Cert.ReferenceIdeal.Gen
open Idealize.ShloMosaic Idealize.SL.Sem

/-- The values of the reference: the product of the rows and the columns, plus the bias of the column. -/
def refVals (x : FVec Ideal S128x64 .f32) (W : FVec Ideal S64x100000 .f32) (b : FVec Ideal S100000 .f32) : FVec Ideal S128x100000 .f32 :=
  addf (Host.dotGeneral dot_S128x64_S64x100000_S128x100000_1_0_0_1_n_n none x W)
    (broadcastInDim S128x100000 ![0, 1] Facts₀.bcast_S1x100000_S128x100000_0_1
      (broadcastInDim S1x100000 ![1] Facts₀.bcast_S100000_S1x100000_1 b))

/-- The actions of the reference: the index that the arg-max reduction leaves for each row of the values. -/
def refActs (V : FVec Ideal S128x100000 .f32) : IVec S128 32 := fun j =>
  (Host.argReduce reducer_argmax_f32_i32 V (iotaInDim S128x100000 32 1) (constant S_ .f32 0xFF800000#32) (constantI S_ 32 0#32)
    Facts₀.reducesTo_S128x100000_S128_d1 Facts₀.h_S_ j).2

/-- The reference's run from any memory: its arguments end unchanged, its results are `refActs` and `refVals` of them, and every
    semaphore is zero. -/
theorem run_main (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_v4)
          = refActs (refVals (m ((c.tc : Thread nD τ).loc main_arg0)) (m ((c.tc : Thread nD τ).loc main_arg1)) (m ((c.tc : Thread nD τ).loc main_arg2)))
      ∧ r.2.mem ((c.tc : Thread nD τ).loc main_v3)
          = refVals (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine θ_run_mono (Q := fun r => ∀ c : Dev nD,
      r.2.mem ((c.tc : Thread nD τ).loc main_v4)
          = refActs (refVals (m ((c.tc : Thread nD τ).loc main_arg0)) (m ((c.tc : Thread nD τ).loc main_arg1)) (m ((c.tc : Thread nD τ).loc main_arg2)))
      ∧ r.2.mem ((c.tc : Thread nD τ).loc main_v3)
          = refVals (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ?_
    (fun r h => ⟨h, sem_eq_zero_of_no_sems (by decide) r.2⟩)
  hlo_run <;> rfl

end Cert.ReferenceIdeal.Hand

end
-- ==== Proof.RefValue.lean ====
/-
  The reference's two results over the extended reals: its values are the sums of the products plus the bias, and an action is the first
  index at which its row's values are greatest.
-/
module

public import proofs.«01_k».proof.Proof.TileValue
public import proofs.«01_k».proof.Proof.Reference

@[expose] public section

noncomputable section

namespace Cert.ReferenceIdeal.Hand

open Cert.ReferenceIdeal Cert.ReferenceIdeal.Gen
open Idealize.ShloMosaic Cert.Argmax

variable (x : S128x64.Idx → EReal) (W : S64x100000.Idx → EReal) (b : S100000.Idx → EReal)

/-! ## The reference's results -/

set_option maxRecDepth 16384 in
/-- The reference's values are the same sums. -/
theorem refVals_apply (j : Fin 128) (n : Fin 100000) : refVals x W b (ix2 j n) = Cert.KernelIdeal.Hand.tv x W b j n := by
  pointwise [refVals]
  rfl

/-- The reduction's step keeps the pair of the greater value, or of the smaller index at equal values. -/
theorem reducer_picks : Picks (reducer_argmax_f32_i32 (F := Ideal)) := by
  intro p q
  obtain ⟨u, i⟩ := p
  obtain ⟨w, k⟩ := q
  have e : reducer_argmax_f32_i32 (F := Ideal) (u, i) (w, k)
      = (if w < u then u else w, if w < u ∨ u = w ∧ i.toInt < k.toInt then i else k) := by
    simp only [reducer_argmax_f32_i32, Ideal.cmpf_def, Ideal.cmp, Scalar.select, IntOp.ori, IntOp.andi, IntOp.cmpi, BitVec.slt_eq_decide]
    by_cases h1 : w < u <;> by_cases h2 : u = w <;> by_cases h3 : i.toInt < k.toInt <;> simp [h1, h2, h3]
  rw [e]
  rcases lt_trichotomy w u with h | h | h
  · exact .inl ⟨by simp [h], .inl h⟩
  · subst h
    by_cases h3 : i.toInt < k.toInt
    · exact .inl ⟨by simp [h3], .inr ⟨rfl, h3.le⟩⟩
    · exact .inr ⟨by simp [h3], .inr ⟨rfl, not_lt.1 h3⟩⟩
  · exact .inr ⟨by simp [h.not_gt, h.ne], .inl h⟩

/-- The pairs the reduction folds for row `j` are the row's values with their indices. -/
theorem mem_fiber (V : FVec Ideal S128x100000 .f32) (j : Fin 128) (p : EReal × BitVec 32) :
    p ∈ Host.argReduceFiber V (iotaInDim S128x100000 32 1) Facts₀.reducesTo_S128x100000_S128_d1 (ix1 j)
      ↔ ∃ n : Fin 100000, p = (V (ix2 j n), BitVec.ofNat 32 n.val) := by
  unfold Host.argReduceFiber
  simp only [List.mem_map, List.mem_filter, List.mem_finRange, true_and, decide_eq_true_eq]
  have hd : ∀ i : S128x100000.Idx, (Facts₀.reducesTo_S128x100000_S128_d1.drop i 0).val = (i 0).val := fun _ => rfl
  constructor
  · rintro ⟨a, ha, rfl⟩
    generalize S128x100000.rowMajor.symm a = i at ha ⊢
    have h0 : i 0 = j := Fin.ext ((hd i).symm.trans (congrArg Fin.val (congrFun ha 0)))
    refine ⟨i 1, ?_⟩
    have e : i = ix2 j (i 1) := by rw [← h0]; exact eq_ix2 i
    exact Prod.ext (congrArg V e) rfl
  · rintro ⟨n, rfl⟩
    refine ⟨S128x100000.rowMajor (ix2 j n), ?_, ?_⟩
    · rw [Equiv.symm_apply_apply]
      exact funext fun a => match a with | 0 => Fin.ext (hd _)
    · rw [Equiv.symm_apply_apply]
      rfl

/-- The same pairs, the values read as the row's column. -/
theorem mem_fiber_col (j : Fin 128) (p : EReal × BitVec 32) :
    p ∈ Host.argReduceFiber (refVals x W b) (iotaInDim S128x100000 32 1) Facts₀.reducesTo_S128x100000_S128_d1 (ix1 j)
      ↔ ∃ n, n < 100000 ∧ p = (Cert.KernelIdeal.Hand.col x W b j n, BitVec.ofNat 32 n) := by
  rw [mem_fiber]
  have hc : ∀ n : Fin 100000, refVals x W b (ix2 j n) = Cert.KernelIdeal.Hand.col x W b j n.val := fun n =>
    (refVals_apply x W b j n).trans (by rw [Cert.KernelIdeal.Hand.col, dif_pos n.isLt])
  exact ⟨fun ⟨n, h⟩ => ⟨n.val, n.isLt, h.trans (congrArg (·, _) (hc n))⟩,
    fun ⟨n, hn, h⟩ => ⟨⟨n, hn⟩, h.trans (congrArg (·, _) (hc ⟨n, hn⟩).symm)⟩⟩

/-- The reduction starts at the least value and index zero. -/
theorem init_pair : (constant (F := Ideal) S_ .f32 0xFF800000#32 (Shape.Idx.first Facts₀.h_S_), constantI S_ 32 0#32 (Shape.Idx.first Facts₀.h_S_))
    = ((⊥ : EReal), 0#32) :=
  Prod.ext Cert.KernelIdeal.Hand.negInf rfl

/-- The second components of a family of pairs. -/
def seconds {α β γ : Type} (p : α → β × γ) : α → γ := fun j => (p j).2

/-- The actions of the reference are the second components of the reduction's pairs. -/
theorem refActs_seconds (V : FVec Ideal S128x100000 .f32) :
    seconds (Host.argReduce reducer_argmax_f32_i32 V (iotaInDim S128x100000 32 1) (constant S_ .f32 0xFF800000#32)
      (constantI S_ 32 0#32) Facts₀.reducesTo_S128x100000_S128_d1 Facts₀.h_S_) = refActs V := rfl

/-- No extended real compares unequal to itself, so the reduction is the plain fold. -/
theorem refActs_plain (V : FVec Ideal S128x100000 .f32) :
    refActs V = seconds (Host.reduce2 reducer_argmax_f32_i32 V (iotaInDim S128x100000 32 1) (constant S_ .f32 0xFF800000#32)
      (constantI S_ 32 0#32) Facts₀.reducesTo_S128x100000_S128_d1 Facts₀.h_S_) :=
  (refActs_seconds V).symm.trans (congrArg seconds (Ideal.argReduce_eq_reduce2 ..))

/-- A second component, given the pair. -/
theorem seconds_apply {α β γ : Type} (p : α → β × γ) (j : α) (q : β × γ) (h : p j = q) : seconds p j = q.2 := congrArg Prod.snd h

/-- The plain reduction of a row is the fold over the row's pairs. -/
theorem reduce_fold (V : FVec Ideal S128x100000 .f32) (j : Fin 128) :
    Host.reduce2 reducer_argmax_f32_i32 V (iotaInDim S128x100000 32 1) (constant S_ .f32 0xFF800000#32)
      (constantI S_ 32 0#32) Facts₀.reducesTo_S128x100000_S128_d1 Facts₀.h_S_ (ix1 j)
      = (Host.argReduceFiber V (iotaInDim S128x100000 32 1) Facts₀.reducesTo_S128x100000_S128_d1 (ix1 j)).foldl
        reducer_argmax_f32_i32 ((⊥ : EReal), 0#32) := by
  rw [Host.reduce2_eq_foldl_fiber, init_pair]

/-- An action of the reference is the reduction's fold over its row. -/
theorem refActs_fold (V : FVec Ideal S128x100000 .f32) (j : Fin 128) (q : EReal × BitVec 32)
    (hq : (Host.argReduceFiber V (iotaInDim S128x100000 32 1) Facts₀.reducesTo_S128x100000_S128_d1 (ix1 j)).foldl
      reducer_argmax_f32_i32 ((⊥ : EReal), 0#32) = q) : refActs V (ix1 j) = q.2 :=
  (congrFun (refActs_plain V) (ix1 j)).trans (seconds_apply _ _ q ((reduce_fold V j).trans hq))

/-- An action of the reference is the first column at which the row's values are greatest. -/
theorem refActs_first (j : Fin 128) :
    ∃ v s, refActs (refVals x W b) (ix1 j) = BitVec.ofNat 32 s ∧ IsFirst (Cert.KernelIdeal.Hand.col x W b j) 0 100000 v s := by
  obtain ⟨s, h1, h2⟩ := foldl_first reducer_picks
    (Host.argReduceFiber (refVals x W b) (iotaInDim S128x100000 32 1) Facts₀.reducesTo_S128x100000_S128_d1 (ix1 j))
    (Cert.KernelIdeal.Hand.col x W b j) 100000 (by norm_num) (by norm_num) (mem_fiber_col x W b j)
  generalize hq : (Host.argReduceFiber (refVals x W b) (iotaInDim S128x100000 32 1) Facts₀.reducesTo_S128x100000_S128_d1 (ix1 j)).foldl
    reducer_argmax_f32_i32 ((⊥ : EReal), 0#32) = q at h1 h2
  exact ⟨q.1, s, (refActs_fold _ j q hq).trans h1, h2⟩

end Cert.ReferenceIdeal.Hand

end
-- ==== Proof.Tile.lean ====
/-
  The SparseCore's task: a tile below the eighth fetches the two tables of tile maxima and argmaxima, merges the thirteen tiles of
  its sixteen columns — a later tile's maximum is taken when it is greater — and copies the merged argmaxima out to its columns
  of the actions. The other tiles do nothing.
-/
module

public import proofs.«01_k».proof.Proof.TcRegion
public import Idealize.ShloMosaic.Lib.ShareLeaves

@[expose] public section

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The merge -/

/-- The merge of tiles `0 … t` of one column: the value and the index kept so far, tile `t + 1`'s taken when its value is greater. -/
def mergeAt (f : ℕ → Elt F .f32) (g : ℕ → BitVec 32) : ℕ → Elt F .f32 × BitVec 32
  | 0 => (f 0, g 0)
  | t + 1 =>
    let p := mergeAt f g t
    let c : BitVec 1 := FloatOps.cmpf .ogt (f (t + 1)) p.1
    (if c = 1#1 then f (t + 1) else p.1, if c = 1#1 then g (t + 1) else p.2)

/-- One step of the merge of sixteen columns at once. -/
def stepV (p : FVec F S16 .f32 × IVec S16 32) (a : Vec F S1x1x16 .f32) (b : Vec F S1x1x16 .i32) : FVec F S16 .f32 × IVec S16 32 :=
  (select (cmpf .ogt (shapeCast S16 a shapeCasts_S1x1x16_S16) p.1) (shapeCast S16 a shapeCasts_S1x1x16_S16) p.1,
    select (cmpf .ogt (shapeCast S16 a shapeCasts_S1x1x16_S16) p.1) (shapeCast S16 b shapeCasts_S1x1x16_S16) p.2)

/-- The merge of sixteen columns at once. -/
def mergeV (f : ℕ → Vec F S1x1x16 .f32) (g : ℕ → Vec F S1x1x16 .i32) : ℕ → FVec F S16 .f32 × IVec S16 32
  | 0 => (shapeCast S16 (f 0) shapeCasts_S1x1x16_S16, shapeCast S16 (g 0) shapeCasts_S1x1x16_S16)
  | t + 1 => stepV (mergeV f g t) (f (t + 1)) (g (t + 1))

/-- Lane `l` of a fetched row of sixteen. -/
def lane (l : S16.Idx) : S1x1x16.Idx := fun | 0 => (0 : Fin 1) | 1 => (0 : Fin 1) | 2 => l 0

theorem cast_lane {α : Type} (v : S1x1x16.Idx → α) (l : S16.Idx) : shapeCast S16 v shapeCasts_S1x1x16_S16 l = v (lane l) :=
  shapeCast_apply v _ l (lane l) (by
    rw [Shape.rowMajor_val_three, Shape.rowMajor_val_one]; simp [lane])

theorem mergeV_lane (f : ℕ → Vec F S1x1x16 .f32) (g : ℕ → Vec F S1x1x16 .i32) (l : S16.Idx) : ∀ t,
    ((mergeV f g t).1 l, (mergeV f g t).2 l) = mergeAt (fun t => f t (lane l)) (fun t => g t (lane l)) t
  | 0 => by simp only [mergeV, mergeAt, cast_lane]
  | t + 1 => by
    have ih := mergeV_lane f g l t
    simp only [mergeV, stepV, mergeAt, ← ih, select, cmpf, cast_lane]
    rfl

section Payloads

/-! The program's payloads as steps, from any state kept so far. -/

variable (p : FVec F S16 .f32 × IVec S16 32) (f : ℕ → Vec F S1x1x16 .f32) (g : ℕ → Vec F S1x1x16 .i32)

theorem pay8_eq : k1_pay8 (f 0) (f 1) (f 2) = (mergeV f g 2).1 := rfl
theorem pay9_eq : k1_pay9 (f 0) (g 0) (f 1) (g 1) (f 2) (g 2) = (mergeV f g 2).2 := rfl
theorem pay18_eq (a b c a' b' c') : k1_pay18 p.1 a b c = (stepV (stepV (stepV p a a') b b') c c').1 := rfl
theorem pay19_eq (a b c a' b' c') : k1_pay19 p.1 p.2 a a' b b' c c' = (stepV (stepV (stepV p a a') b b') c c').2 := rfl
theorem pay22_eq (a b c d a' b' c') : k1_pay22 p.1 a b c d = cmpf .ogt (k1_pay20 d) (stepV (stepV (stepV p a a') b b') c c').1 := rfl
theorem pay32_eq (d a b c d' a' b' c') : k1_pay32 p.1 (k1_pay20 d) (cmpf .ogt (k1_pay20 d) p.1) a b c
    = (stepV (stepV (stepV (stepV p d d') a a') b b') c c').1 := rfl
theorem pay33_eq (d a b c d' a' b' c') : k1_pay33 p.1 p.2 (k1_pay20 d) (k1_pay21 (F := F) d') (cmpf .ogt (k1_pay20 d) p.1) a a' b b' c c'
    = (stepV (stepV (stepV (stepV p d d') a a') b b') c c').2 := rfl
theorem pay1_eq (a b c a' b' c') : k1_pay1 p.1 p.2 (k1_pay34 a) a' b b' c c'
    = shapeCast S16 (stepV (stepV (stepV p a a') b b') c c').2 shapeCasts_S16_S16 := rfl

/-- The program's merge of thirteen fetched rows, as its payloads chain it. -/
def mergedPay : IVec S16 32 :=
  k1_pay1
    (k1_pay32 (k1_pay18 (k1_pay8 (f 0) (f 1) (f 2)) (f 3) (f 4) (f 5)) (k1_pay20 (f 6)) (k1_pay22 (k1_pay8 (f 0) (f 1) (f 2)) (f 3) (f 4) (f 5) (f 6))
      (f 7) (f 8) (f 9))
    (k1_pay33 (k1_pay18 (k1_pay8 (f 0) (f 1) (f 2)) (f 3) (f 4) (f 5))
      (k1_pay19 (k1_pay8 (f 0) (f 1) (f 2)) (k1_pay9 (f 0) (g 0) (f 1) (g 1) (f 2) (g 2)) (f 3) (g 3) (f 4) (g 4) (f 5) (g 5))
      (k1_pay20 (f 6)) (k1_pay21 (F := F) (g 6)) (k1_pay22 (k1_pay8 (f 0) (f 1) (f 2)) (f 3) (f 4) (f 5) (f 6))
      (f 7) (g 7) (f 8) (g 8) (f 9) (g 9))
    (k1_pay34 (f 10)) (g 10) (f 11) (g 11) (f 12) (g 12)

/-- It is, lane by lane, the merge of the lane's column. -/
theorem mergedPay_lane (l : S16.Idx) : mergedPay f g l = (mergeAt (fun t => f t (lane l)) (fun t => g t (lane l)) 12).2 := by
  have h : mergedPay f g = shapeCast S16 (mergeV f g 12).2 shapeCasts_S16_S16 := by
    unfold mergedPay
    rw [pay8_eq f g, pay9_eq f g, pay18_eq _ _ _ _ (g 3) (g 4) (g 5), pay19_eq, pay22_eq _ _ _ _ _ (g 3) (g 4) (g 5),
      pay32_eq _ _ _ _ _ (g 6) (g 7) (g 8) (g 9), pay33_eq, pay1_eq]
    rfl
  rw [h, shapeCast_self, ← mergeV_lane f g l 12]
end Payloads

/-! ## What a task takes and leaves -/

variable (m : (ℓ : Loc nD τ sig) → Buf (Elt F) ℓ)

abbrev pmLoc (d : Dev nD) : Loc nD τ sig := (SparseCore.T d).loc main_v0_1
abbrev piLoc (d : Dev nD) : Loc nD τ sig := (SparseCore.T d).loc main_v0_2
abbrev acLoc (d : Dev nD) : Loc nD τ sig := (SparseCore.T d).loc main_v1

/-- Tile `t` of column `j` in a table. -/
def tix (t : ℕ) (j : S128.Idx) : S13x1x128.Idx := fun | 0 => Fin.ofNat 13 t | 1 => (0 : Fin 1) | 2 => j 0

/-- The merge of column `j` of two tables. -/
def merged (pm : S13x1x128.Idx → Elt F .f32) (pi : S13x1x128.Idx → BitVec 32) (j : S128.Idx) : BitVec 32 :=
  (mergeAt (fun t => pm (tix t j)) (fun t => pi (tix t j)) 12).2

/-- An action: the merge of its column of some tables of tile maxima and argmaxima. -/
def AGood (x : S128x64.Idx → Elt F .f32) (W : S64x100000.Idx → Elt F .f32) (b : S100000.Idx → Elt F .f32) (j : S128.Idx) (v : BitVec 32) : Prop :=
  ∃ pm pi, MaxOK x W b pm ∧ ArgOK x W b pi ∧ v = merged pm pi j

/-- The columns of task `i`. -/
def rowSet (i : Fin 16) : Finset S128.Idx := Finset.univ.filter fun j => (j 0).val / 16 = i.val

/-- Task `i`'s share of the tables. -/
abbrev tq (i : Fin 16) : PosShare TreeShare := ShareLeaves.leaf 4 fullShare i

/-- What a task takes: a share of two tables of tile maxima and argmaxima, its columns of the actions; -/
def goPts (d : Dev nD) (i : Fin 16) : sProp 𝕄 :=
  iprop(∃ pm pi, ⌜MaxOK (xA m d) (wA m d) (bA m d) pm ∧ ArgOK (xA m d) (wA m d) (bA m d) pi⌝
    ∗ (pmLoc d ↦{tq i} pm) ∗ (piLoc d ↦{tq i} pi) ∗ acLoc d ↦[rowSet i]{fullShare} m (acLoc d))
/-- what it leaves: its columns of the actions, each the merge of its column for a task below the eighth (which are all the columns). -/
def tdPts (d : Dev nD) (i : Fin 16) : sProp 𝕄 :=
  iprop(∃ f, ⌜∀ j ∈ rowSet i, AGood (xA m d) (wA m d) (bA m d) j (f j)⌝ ∗ acLoc d ↦[rowSet i]{fullShare} f)

section TileBody

variable (d : Dev nD) (L : grid1.Coords)

abbrev cV (L : grid1.Coords) : Fin τ.nSC := (L 0).castLE hcore1
abbrev jV (L : grid1.Coords) : Fin τ.nSub := (L 1).castLE hsub1
theorem bound_one : grid1.bound 1 = 16 := rfl
abbrev jL (L : grid1.Coords) : Fin 16 := Fin.cast bound_one (L 1)

/-- The task's columns of the actions, as it addresses them. -/
abbrev outM (h : k1_cond1 L = 1#1) : Memref sig .scVector .hbm S16 .i32 :=
  (Memref.whole main_v1_scv : Memref sig .scVector .hbm S128 .i32).slice (Rect.unit (s := S128) (k1_off14 L) S16.size (k1_off14_inb L h)) (fun _ => rfl)

theorem cond1_iff : ∀ L : grid1.Coords, k1_cond1 L = 1#1 ↔ (L 1).val < 8 := by decide +kernel

/-- A task from the eighth on has no column. -/
theorem rowSet_empty (h : ¬ k1_cond1 L = 1#1) : rowSet (jL L) = ∅ := by
  rw [cond1_iff] at h
  refine Finset.filter_eq_empty_iff.mpr fun j _ e => ?_
  have := (j 0).isLt
  have h2 : (j 0).val < 128 := this
  have h3 : (j 0).val / 16 = (L 1).val := e
  omega

/-- Lane `l` of the task's columns is column `16 * L 1 + l`. -/
theorem outM_emb (h : k1_cond1 L = 1#1) (l : S16.Idx) : (((outM L h).view.emb l : S128.Idx) 0).val = 16 * (L 1).val + (l 0).val := by
  show k1_off14 L 0 + 1 * (l 0).val = _
  rw [k1_off14_eq]; simp

theorem mem_outM (h : k1_cond1 L = 1#1) (j : S128.Idx) (hj : j ∈ rowSet (jL L)) : ∃ l : S16.Idx, (outM L h).view.emb l = j := by
  have h3 : (j 0).val / 16 = (L 1).val := (Finset.mem_filter.mp hj).2
  refine ⟨fun | 0 => ⟨(j 0).val - 16 * (L 1).val, by show _ < 16; omega⟩, funext fun a => ?_⟩
  obtain rfl : a = (0 : Fin 1) := Subsingleton.elim (α := Fin 1) _ _
  refine Fin.ext ((outM_emb L h _).trans ?_)
  show 16 * (L 1).val + ((j 0).val - 16 * (L 1).val) = _
  omega

theorem set_outM (h : k1_cond1 L = 1#1) : (outM L h).view.set = rowSet (jL L) := by
  ext j
  constructor
  · intro hj
    obtain ⟨l, -, rfl⟩ := Finset.mem_map.mp hj
    have h4 : (l 0).val < 16 := (l 0).isLt
    refine Finset.mem_filter.mpr ⟨Finset.mem_univ _, ?_⟩
    show (((outM L h).view.emb l : S128.Idx) 0).val / 16 = (L 1).val
    rw [outM_emb]; omega
  · intro hj
    obtain ⟨l, rfl⟩ := mem_outM L h j hj
    exact Finset.mem_map_of_mem _ (Finset.mem_univ _)

/-- The thirteen loads of the task's columns from the table of maxima. -/
def ldF (h : k1_cond1 L = 1#1) (X : S13x1x128.Idx → Elt F .f32) : ℕ → Vec F S1x1x16 .f32
  | 0 => (Memref.whole cc1_scratch0 : Memref sig .scVector .vmem S13x1x128 .f32).view.readAt (Elt F) (Rect.unit (s := S13x1x128) (k1_off1 L) S1x1x16.size (k1_off1_inb L h)).toLoadRect X
  | 1 => (Memref.whole cc1_scratch0 : Memref sig .scVector .vmem S13x1x128 .f32).view.readAt (Elt F) (Rect.unit (s := S13x1x128) (k1_off2 L) S1x1x16.size (k1_off2_inb L h)).toLoadRect X
  | 2 => (Memref.whole cc1_scratch0 : Memref sig .scVector .vmem S13x1x128 .f32).view.readAt (Elt F) (Rect.unit (s := S13x1x128) (k1_off3 L) S1x1x16.size (k1_off3_inb L h)).toLoadRect X
  | 3 => (Memref.whole cc1_scratch0 : Memref sig .scVector .vmem S13x1x128 .f32).view.readAt (Elt F) (Rect.unit (s := S13x1x128) (k1_off4 L) S1x1x16.size (k1_off4_inb L h)).toLoadRect X
  | 4 => (Memref.whole cc1_scratch0 : Memref sig .scVector .vmem S13x1x128 .f32).view.readAt (Elt F) (Rect.unit (s := S13x1x128) (k1_off5 L) S1x1x16.size (k1_off5_inb L h)).toLoadRect X
  | 5 => (Memref.whole cc1_scratch0 : Memref sig .scVector .vmem S13x1x128 .f32).view.readAt (Elt F) (Rect.unit (s := S13x1x128) (k1_off6 L) S1x1x16.size (k1_off6_inb L h)).toLoadRect X
  | 6 => (Memref.whole cc1_scratch0 : Memref sig .scVector .vmem S13x1x128 .f32).view.readAt (Elt F) (Rect.unit (s := S13x1x128) (k1_off7 L) S1x1x16.size (k1_off7_inb L h)).toLoadRect X
  | 7 => (Memref.whole cc1_scratch0 : Memref sig .scVector .vmem S13x1x128 .f32).view.readAt (Elt F) (Rect.unit (s := S13x1x128) (k1_off8 L) S1x1x16.size (k1_off8_inb L h)).toLoadRect X
  | 8 => (Memref.whole cc1_scratch0 : Memref sig .scVector .vmem S13x1x128 .f32).view.readAt (Elt F) (Rect.unit (s := S13x1x128) (k1_off9 L) S1x1x16.size (k1_off9_inb L h)).toLoadRect X
  | 9 => (Memref.whole cc1_scratch0 : Memref sig .scVector .vmem S13x1x128 .f32).view.readAt (Elt F) (Rect.unit (s := S13x1x128) (k1_off10 L) S1x1x16.size (k1_off10_inb L h)).toLoadRect X
  | 10 => (Memref.whole cc1_scratch0 : Memref sig .scVector .vmem S13x1x128 .f32).view.readAt (Elt F) (Rect.unit (s := S13x1x128) (k1_off11 L) S1x1x16.size (k1_off11_inb L h)).toLoadRect X
  | 11 => (Memref.whole cc1_scratch0 : Memref sig .scVector .vmem S13x1x128 .f32).view.readAt (Elt F) (Rect.unit (s := S13x1x128) (k1_off12 L) S1x1x16.size (k1_off12_inb L h)).toLoadRect X
  | 12 => (Memref.whole cc1_scratch0 : Memref sig .scVector .vmem S13x1x128 .f32).view.readAt (Elt F) (Rect.unit (s := S13x1x128) (k1_off13 L) S1x1x16.size (k1_off13_inb L h)).toLoadRect X
  | _ => fun _ => X (fun | 0 => (0 : Fin 13) | 1 => (0 : Fin 1) | 2 => (0 : Fin 128))
/-- The thirteen loads of the task's columns from the table of argmaxima. -/
def ldG (h : k1_cond1 L = 1#1) (X : S13x1x128.Idx → BitVec 32) : ℕ → Vec F S1x1x16 .i32
  | 0 => (Memref.whole cc1_scratch1 : Memref sig .scVector .vmem S13x1x128 .i32).view.readAt (Elt F) (Rect.unit (s := S13x1x128) (k1_off1 L) S1x1x16.size (k1_off1_inb L h)).toLoadRect X
  | 1 => (Memref.whole cc1_scratch1 : Memref sig .scVector .vmem S13x1x128 .i32).view.readAt (Elt F) (Rect.unit (s := S13x1x128) (k1_off2 L) S1x1x16.size (k1_off2_inb L h)).toLoadRect X
  | 2 => (Memref.whole cc1_scratch1 : Memref sig .scVector .vmem S13x1x128 .i32).view.readAt (Elt F) (Rect.unit (s := S13x1x128) (k1_off3 L) S1x1x16.size (k1_off3_inb L h)).toLoadRect X
  | 3 => (Memref.whole cc1_scratch1 : Memref sig .scVector .vmem S13x1x128 .i32).view.readAt (Elt F) (Rect.unit (s := S13x1x128) (k1_off4 L) S1x1x16.size (k1_off4_inb L h)).toLoadRect X
  | 4 => (Memref.whole cc1_scratch1 : Memref sig .scVector .vmem S13x1x128 .i32).view.readAt (Elt F) (Rect.unit (s := S13x1x128) (k1_off5 L) S1x1x16.size (k1_off5_inb L h)).toLoadRect X
  | 5 => (Memref.whole cc1_scratch1 : Memref sig .scVector .vmem S13x1x128 .i32).view.readAt (Elt F) (Rect.unit (s := S13x1x128) (k1_off6 L) S1x1x16.size (k1_off6_inb L h)).toLoadRect X
  | 6 => (Memref.whole cc1_scratch1 : Memref sig .scVector .vmem S13x1x128 .i32).view.readAt (Elt F) (Rect.unit (s := S13x1x128) (k1_off7 L) S1x1x16.size (k1_off7_inb L h)).toLoadRect X
  | 7 => (Memref.whole cc1_scratch1 : Memref sig .scVector .vmem S13x1x128 .i32).view.readAt (Elt F) (Rect.unit (s := S13x1x128) (k1_off8 L) S1x1x16.size (k1_off8_inb L h)).toLoadRect X
  | 8 => (Memref.whole cc1_scratch1 : Memref sig .scVector .vmem S13x1x128 .i32).view.readAt (Elt F) (Rect.unit (s := S13x1x128) (k1_off9 L) S1x1x16.size (k1_off9_inb L h)).toLoadRect X
  | 9 => (Memref.whole cc1_scratch1 : Memref sig .scVector .vmem S13x1x128 .i32).view.readAt (Elt F) (Rect.unit (s := S13x1x128) (k1_off10 L) S1x1x16.size (k1_off10_inb L h)).toLoadRect X
  | 10 => (Memref.whole cc1_scratch1 : Memref sig .scVector .vmem S13x1x128 .i32).view.readAt (Elt F) (Rect.unit (s := S13x1x128) (k1_off11 L) S1x1x16.size (k1_off11_inb L h)).toLoadRect X
  | 11 => (Memref.whole cc1_scratch1 : Memref sig .scVector .vmem S13x1x128 .i32).view.readAt (Elt F) (Rect.unit (s := S13x1x128) (k1_off12 L) S1x1x16.size (k1_off12_inb L h)).toLoadRect X
  | 12 => (Memref.whole cc1_scratch1 : Memref sig .scVector .vmem S13x1x128 .i32).view.readAt (Elt F) (Rect.unit (s := S13x1x128) (k1_off13 L) S1x1x16.size (k1_off13_inb L h)).toLoadRect X
  | _ => fun _ => X (fun | 0 => (0 : Fin 13) | 1 => (0 : Fin 1) | 2 => (0 : Fin 128))

/-- A load of sixteen columns of a table's tile `t`, at a lane, is the table at the tile and the lane's column. -/
theorem ld_lane {e : EltTy} (v : View sig .scVector .vmem S13x1x128 e) (X : v.ty.Contents (Elt F)) (off : Fin 3 → ℕ) (hin) (t : ℕ) (ht : t < 13) (h : k1_cond1 L = 1#1)
    (ho : off = ![t, 0, 16 * (L 1).val]) (l : S16.Idx) :
    v.readAt (Elt F) (Rect.unit (s := S13x1x128) off S1x1x16.size hin).toLoadRect X (lane l) = v.read (Elt F) X (tix t ((outM L h).view.emb l)) := by
  subst ho
  refine congrArg (v.read (Elt F) X) (funext fun a => Fin.ext ?_)
  match a with
  | 0 => show t + 1 * 0 = t % 13; omega
  | 1 => rfl
  | 2 => exact (show 16 * (L 1).val + 1 * (l 0).val = 16 * (L 1).val + (l 0).val by omega).trans (outM_emb L h l).symm

theorem ldF_lane (h : k1_cond1 L = 1#1) (X) (l : S16.Idx) (t : ℕ) (ht : t < 13) :
    ldF (F := F) L h X t (lane l) = X (tix t ((outM L h).view.emb l)) := by
  have key := fun off hin ho => ld_lane (F := F) L (Memref.whole cc1_scratch0 : Memref sig .scVector .vmem S13x1x128 .f32).view X off hin t ht h ho l
  interval_cases t
  · exact key _ _ (k1_off1_eq L)
  · exact key _ _ (k1_off2_eq L)
  · exact key _ _ (k1_off3_eq L)
  · exact key _ _ (k1_off4_eq L)
  · exact key _ _ (k1_off5_eq L)
  · exact key _ _ (k1_off6_eq L)
  · exact key _ _ (k1_off7_eq L)
  · exact key _ _ (k1_off8_eq L)
  · exact key _ _ (k1_off9_eq L)
  · exact key _ _ (k1_off10_eq L)
  · exact key _ _ (k1_off11_eq L)
  · exact key _ _ (k1_off12_eq L)
  · exact key _ _ (k1_off13_eq L)
theorem ldG_lane (h : k1_cond1 L = 1#1) (X) (l : S16.Idx) (t : ℕ) (ht : t < 13) :
    ldG (F := F) L h X t (lane l) = X (tix t ((outM L h).view.emb l)) := by
  have key := fun off hin ho => ld_lane (F := F) L (Memref.whole cc1_scratch1 : Memref sig .scVector .vmem S13x1x128 .i32).view X off hin t ht h ho l
  interval_cases t
  · exact key _ _ (k1_off1_eq L)
  · exact key _ _ (k1_off2_eq L)
  · exact key _ _ (k1_off3_eq L)
  · exact key _ _ (k1_off4_eq L)
  · exact key _ _ (k1_off5_eq L)
  · exact key _ _ (k1_off6_eq L)
  · exact key _ _ (k1_off7_eq L)
  · exact key _ _ (k1_off8_eq L)
  · exact key _ _ (k1_off9_eq L)
  · exact key _ _ (k1_off10_eq L)
  · exact key _ _ (k1_off11_eq L)
  · exact key _ _ (k1_off12_eq L)
  · exact key _ _ (k1_off13_eq L)

/-- The merge to tile `t` looks at the tiles up to `t`. -/
theorem mergeAt_congr {f f' : ℕ → Elt F .f32} {g g' : ℕ → BitVec 32} : ∀ n, (∀ t, t ≤ n → f t = f' t ∧ g t = g' t) → mergeAt f g n = mergeAt f' g' n
  | 0, h => by simp only [mergeAt, (h 0 le_rfl).1, (h 0 le_rfl).2]
  | n + 1, h => by
    simp only [mergeAt, mergeAt_congr n fun t ht => h t (Nat.le_succ_of_le ht), (h (n + 1) le_rfl).1, (h (n + 1) le_rfl).2]

/-- The task's merge of its loads is, lane by lane, the merge of the lane's column. -/
theorem mergedPay_eq (h : k1_cond1 L = 1#1) (X Y) (l : S16.Idx) :
    mergedPay (ldF (F := F) L h X) (ldG L h Y) l = merged X Y ((outM L h).view.emb l) := by
  rw [mergedPay_lane]
  exact congrArg Prod.snd (mergeAt_congr 12 fun t ht => ⟨ldF_lane L h X l t (by omega), ldG_lane L h Y l t (by omega)⟩)

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scoped1.sem)
abbrev cCcell (d : Dev nD) (c : Fin τ.nSC) (i : Fin τ.nSub) : GSem nD τ sig := (V d c i, .dma cc1_scoped2.sem)

/-- The task's three cells are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped2.sem : SemLoc sig).isScoped .scVector = true; decide⟩⟩⟩)]

/-- The task's three scratch buffers are among the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
    Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-! The buffers' points-tos, as the task addresses them. -/

theorem pts_pm (q : PosShare TreeShare) (f : Buf (Elt F) (pmLoc d)) : ((Memref.whole main_v0_1_scv : Memref sig .scVector .hbm S13x1x128 .f32).view.loc (V d (cV L) (jV L)) ↦{q} f : sProp 𝕄) = pmLoc d ↦{q} f := rfl
theorem pts_pi (q : PosShare TreeShare) (f : Buf (Elt F) (piLoc d)) : ((Memref.whole main_v0_2_scv : Memref sig .scVector .hbm S13x1x128 .i32).view.loc (V d (cV L) (jV L)) ↦{q} f : sProp 𝕄) = piLoc d ↦{q} f := rfl
theorem pts_sm (f : Buf (Elt F) ((V d (cV L) (jV L)).loc cc1_scratch0)) :
    ((Memref.whole cc1_scratch0 : Memref sig .scVector .vmem S13x1x128 .f32).view.loc (V d (cV L) (jV L)) ↦{fullShare} f : sProp 𝕄) = (V d (cV L) (jV L)).loc cc1_scratch0 ↦{fullShare} f := rfl
theorem pts_si (f : Buf (Elt F) ((V d (cV L) (jV L)).loc cc1_scratch1)) :
    ((Memref.whole cc1_scratch1 : Memref sig .scVector .vmem S13x1x128 .i32).view.loc (V d (cV L) (jV L)) ↦{fullShare} f : sProp 𝕄) = (V d (cV L) (jV L)).loc cc1_scratch1 ↦{fullShare} f := rfl
theorem pts_so (f : Buf (Elt F) ((V d (cV L) (jV L)).loc cc1_scratch2)) :
    ((Memref.whole cc1_scratch2 : Memref sig .scVector .vmem S16 .i32).view.loc (V d (cV L) (jV L)) ↦{fullShare} f : sProp 𝕄) = (V d (cV L) (jV L)).loc cc1_scratch2 ↦{fullShare} f := rfl
theorem pts_out (h : k1_cond1 L = 1#1) (f : Buf (Elt F) (acLoc d)) :
    ((outM L h).view.loc (V d (cV L) (jV L)) ↦[(outM L h).view.set]{fullShare} f : sProp 𝕄) = acLoc d ↦[rowSet (jL L)]{fullShare} f := by
  rw [set_outM]

set_option maxHeartbeats 8000000 in
/-- The task on vector subcore `(L 0, L 1)` of device `d`. -/
theorem tile_body (hF : (K (F := F)).Facts) (O : CellTallies nD τ sig (HIx 1)) (W : Waits sig (HIx 1)) (hO : ∀ g, O g none = 0) :
    iprop(levAts (K (F := F)).L (K (F := F)).lev ∗ emp ∗ goPts m d (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_merge_body L (Memref.whole main_v0_1_scv : Memref sig .scVector .hbm S13x1x128 .f32) (Memref.isWhole_whole _) (Memref.whole main_v0_2_scv : Memref sig .scVector .hbm S13x1x128 .i32) (Memref.isWhole_whole _) (Memref.whole main_v1_scv : Memref sig .scVector .hbm S128 .i32) (Memref.isWhole_whole _)
            (Memref.whole cc1_scratch0 : Memref sig .scVector .vmem S13x1x128 .f32) (Memref.isWhole_whole _) (Memref.whole cc1_scratch1 : Memref sig .scVector .vmem S13x1x128 .i32) (Memref.isWhole_whole _) (Memref.whole cc1_scratch2 : Memref sig .scVector .vmem S16 .i32) (Memref.isWhole_whole _) cc1_scoped0 cc1_scoped1 cc1_scoped2)
          fun _ => iprop(tdPts m d (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_merge_body_eq_skeleton]; unfold cc1__sc_merge_body_skel
  by_cases hc : k1_cond1 L = 1#1
  · rw [dif_pos hc]
    simp only [k1_part1_eq_skeleton, k1_part2_eq_skeleton, k1_part3_eq_skeleton]
    unfold k1_part1_skel k1_part2_skel k1_part3_skel goPts
    rw [(K (F := F)).scopedBufs_V hF d (cV L) (jV L), SparseCore.Cfg.scopedSems0_V (Val := Elt F) d (cV L) (jV L), ownSems0_V, ownBufs_V]
    iintro ⟨#Hlv, -, ⟨%pm, %pi, %hOK, Hm, Hi, Ho⟩, ⟨⟨%fm, Hsm⟩, ⟨%fi, Hsi⟩, ⟨%fo, Hso⟩, Hbufs⟩, ⟨HsemA, HsemB, HsemC, Hsems⟩, HO⟩
    ihave Hmw := (show levAts (K (F := F)).L (K (F := F)).lev ⊢ Transfers.MayWaits (V d (cV L) (jV L)) (default : HIx 1) O from
      (K (F := F)).mayWaits_none (thr := V d (cV L) (jV L)) hO) $$ Hlv
    ihave Hm' := (Entails.of_eq (pts_pm (F := F) d L _ _).symm) $$ Hm
    ihave Hi' := (Entails.of_eq (pts_pi (F := F) d L _ _).symm) $$ Hi
    ihave Ho' := (Entails.of_eq (pts_out (F := F) d L hc _).symm) $$ Ho
    ihave Hsm' := (Entails.of_eq (pts_sm (F := F) d L _).symm) $$ Hsm
    ihave Hsi' := (Entails.of_eq (pts_si (F := F) d L _).symm) $$ Hsi
    ihave Hso' := (Entails.of_eq (pts_so (F := F) d L _).symm) $$ Hso
    sl_exec
    sl_step
    have hpay : tile_body.sl.dma28 d L hc pm pi fm fi fo = mergedPay (ldF L hc pm) (ldG L hc pi) := by
      have e0 : View.write (Elt F) (Memref.whole cc1_scratch0 : Memref sig .scVector .vmem S13x1x128 .f32).view fm (tile_body.sl.dma0 pm) Finset.univ = pm := View.write_whole_univ _ _ _
      have e1 : View.write (Elt F) (Memref.whole cc1_scratch1 : Memref sig .scVector .vmem S13x1x128 .i32).view fi (tile_body.sl.dma0_1 pi) Finset.univ = pi := View.write_whole_univ _ _ _
      conv_rhs => rw [← e0, ← e1]
      refine (View.read_writes_full (Memref.whole cc1_scratch2 : Memref sig .scVector .vmem S16 .i32).view fo _ _ _).trans ?_
      rfl
    isplitl [Ho']
    · unfold tdPts
      iexists _; isplitr
      swap; · iapply (Entails.of_eq (pts_out (F := F) d L hc _)); iexact Ho'
      ipureintro
      intro j hj
      obtain ⟨l, rfl⟩ := mem_outM L hc j hj
      refine ⟨pm, pi, hOK.1, hOK.2, ?_⟩
      rw [← mergedPay_eq, ← hpay]
      have e := View.read_writes_cons_emb (Val := Elt F) (outM L hc).view (m (acLoc d)) (Rect.whole S16) (tile_body.sl.dma28 d L hc pm pi fm fi fo) [] l
      rw [show (Rect.whole S16).emb l = l from funext fun a => Fin.ext (by show 0 + 1 * (l a).val = (l a).val; omega)] at e
      exact e
    isplitl [Hsm' Hsi' Hso' Hbufs]
    · isplitl [Hsm']; · iexists _; iexact Hsm'
      isplitl [Hsi']; · iexists _; iexact Hsi'
      isplitl [Hso']; · iexists _; iexact Hso'
      iexact Hbufs
    isplitl [HsemA HsemB HsemC Hsems]
    · isplitl [HsemA]; · iexact HsemA
      isplitl [HsemB]; · iexact HsemB
      isplitl [HsemC]; · iexact HsemC
      iexact Hsems
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · rw [dif_neg hc]
    unfold goPts tdPts
    iintro ⟨-, -, ⟨%pm, %pi, %hOK, -, -, Ho⟩, Hbufs, Hsems, HO⟩
    sl_step
    isplitl [Ho]
    · iexists _; isplitr
      swap; · iexact Ho
      ipureintro
      intro j hj
      rw [rowSet_empty L hc] at hj
      exact absurd hj (Finset.notMem_empty j)
    isplitl [Hbufs]; · iexact Hbufs
    isplitl [Hsems]; · iexact Hsems
    iexists W; isplitr
    · ipureintro; exact fun p hp => .inl hp
    · iexact HO

end TileBody

end Cert.KernelIdeal.Hand

end
-- ==== Proof.Run.lean ====
/-
  The program's run: @main's TensorCore kernel is one region of the pipeline, its SparseCore call hands the two tables and the
  actions to the sixteen tasks and takes the actions back, and the logits are transposed on the host. It ends with the arguments as
  they were, each action a merge of its column, the values a transpose of the logits, and every semaphore zero.
-/
module

public import proofs.«01_k».proof.Proof.Tile

@[expose] public section

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held wp_hlo_within)

variable (m : (ℓ : Loc nD τ sig) → Buf (Elt F) ℓ) (ρ : Dev nD → PrngReg)

/-! ## What the SparseCore call takes and leaves -/

/-- The call takes two tables of tile maxima and argmaxima and the actions at their launch contents; -/
def stPts (d : Dev nD) : sProp 𝕄 :=
  iprop(∃ pm pi, ⌜MaxOK (xA m d) (wA m d) (bA m d) pm ∧ ArgOK (xA m d) (wA m d) (bA m d) pi⌝
    ∗ (pmLoc d ↦{fullShare} pm) ∗ (piLoc d ↦{fullShare} pi) ∗ acLoc d ↦{fullShare} m (acLoc d))
/-- it leaves the actions, each the merge of its column. -/
def dnPts (d : Dev nD) : sProp 𝕄 :=
  iprop(∃ f, ⌜∀ j, AGood (xA m d) (wA m d) (bA m d) j (f j)⌝ ∗ acLoc d ↦{fullShare} f)

theorem nSub_zero : (K (F := F)).nSub 0 = 16 := rfl

/-- What the handshakes carry. -/
def P : (K (F := F)).Pay (nD := nD) (Val := Elt F) (Name := ℕ) (U := UU) where
  st := fun q d _ => match q with | 0 => stPts m d
  dn := fun q d _ => match q with | 0 => dnPts m d
  go := fun q d _ i => match q with | 0 => goPts m d (Fin.cast nSub_zero i)
  td := fun q d _ i => match q with | 0 => tdPts m d (Fin.cast nSub_zero i)
  x := fun _ _ => iprop(emp)

instance P_storable : (P (F := F) m).IsStorable where
  st q d _ := match q with
    | 0 => by show BI.Storable (upEmb : UEmb _ 𝕄) (stPts m d); unfold stPts; infer_instance
  dn q d _ := match q with
    | 0 => by show BI.Storable (upEmb : UEmb _ 𝕄) (dnPts m d); unfold dnPts; infer_instance
  go q d _ i := match q with
    | 0 => by show BI.Storable (upEmb : UEmb _ 𝕄) (goPts m d (Fin.cast nSub_zero i)); unfold goPts; infer_instance
  td q d _ i := match q with
    | 0 => by show BI.Storable (upEmb : UEmb _ 𝕄) (tdPts m d (Fin.cast nSub_zero i)); unfold tdPts; infer_instance

/-! ## The task's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_merge_body (coordsV c s)
          (Memref.whole main_v0_1_scv) (Memref.isWhole_whole _) (Memref.whole main_v0_2_scv) (Memref.isWhole_whole _)
          (Memref.whole main_v1_scv) (Memref.isWhole_whole _) (Memref.whole cc1_scratch0) (Memref.isWhole_whole _)
          (Memref.whole cc1_scratch1) (Memref.isWhole_whole _) (Memref.whole cc1_scratch2) (Memref.isWhole_whole _)
          cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each task runs from what the handshake hands it to what it hands back. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

/-! ## The call's split into tasks and back -/

theorem rowSets_disjoint : ∀ i ∈ (Finset.univ : Finset (Fin 16)), ∀ j ∈ (Finset.univ : Finset (Fin 16)), i ≠ j → Disjoint (rowSet i) (rowSet j) :=
  fun i _ j _ h => Finset.disjoint_left.mpr fun x hi hj =>
    h (Fin.ext ((Finset.mem_filter.mp hi).2.symm.trans (Finset.mem_filter.mp hj).2))
theorem rowSets_cover : (Finset.univ : Finset (Fin 16)).biUnion rowSet = Finset.univ := by
  ext j
  have h : (j 0).val < 128 := (j 0).isLt
  exact ⟨fun _ => Finset.mem_univ _, fun _ => Finset.mem_biUnion.mpr ⟨⟨(j 0).val / 16, by omega⟩, Finset.mem_univ _, Finset.mem_filter.mpr ⟨Finset.mem_univ _, rfl⟩⟩⟩

theorem ac_rows (d : Dev nD) (f : Buf (Elt F) (acLoc d)) :
    (acLoc d ↦{fullShare} f : sProp 𝕄) = bigSep Finset.univ fun i : Fin 16 => acLoc d ↦[rowSet i]{fullShare} f := by
  rw [← pointsTo_biUnion Finset.univ (ℓ := acLoc d) rowSet rowSets_disjoint, rowSets_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem go_intro (d : Dev nD) (pm pi) (h : MaxOK (xA m d) (wA m d) (bA m d) pm ∧ ArgOK (xA m d) (wA m d) (bA m d) pi) (i : Fin 16) :
    iprop((pmLoc d ↦{tq i} pm) ∗ (piLoc d ↦{tq i} pi) ∗ acLoc d ↦[rowSet i]{fullShare} m (acLoc d)) ⊢ (goPts m d i : sProp 𝕄) := by
  unfold goPts
  iintro ⟨H1, H2, H3⟩
  iexists pm; iexists pi
  isplitr; · ipureintro; exact h
  isplitl [H1]; · iexact H1
  isplitl [H2]; · iexact H2
  iexact H3

/-- The call's two tables and the actions, dealt to the tasks. -/
theorem st_split (d : Dev nD) : stPts m d ⊢ bigSep Finset.univ fun i : Fin 16 => goPts m d i := by
  unfold stPts
  iintro ⟨%pm, %pi, %h, Hm, Hi, Ho⟩
  ihave Hm' := (Entails.of_eq (ShareLeaves.pointsTo_leaves (Ix := HIx 1) (Name := ℕ) (U := UU) (Lvl := ℕ) (ℓ := pmLoc d) Finset.univ pm 4 fullShare)) $$ Hm
  ihave Hi' := (Entails.of_eq (ShareLeaves.pointsTo_leaves (Ix := HIx 1) (Name := ℕ) (U := UU) (Lvl := ℕ) (ℓ := piLoc d) Finset.univ pi 4 fullShare)) $$ Hi
  ihave Ho' := (Entails.of_eq (ac_rows (F := F) d _)) $$ Ho
  iapply (show iprop((bigSep Finset.univ fun i : Fin 16 => pmLoc d ↦{tq i} pm) ∗ (bigSep Finset.univ fun i : Fin 16 => piLoc d ↦{tq i} pi)
      ∗ bigSep Finset.univ fun i : Fin 16 => acLoc d ↦[rowSet i]{fullShare} m (acLoc d)) ⊢ (bigSep Finset.univ fun i : Fin 16 => goPts m d i : sProp 𝕄) by
    rw [← bigSep_sep', ← bigSep_sep']
    exact bigSep_mono fun i _ => go_intro m d pm pi h i)
  isplitl [Hm']; · iexact Hm'
  isplitl [Hi']; · iexact Hi'
  iexact Ho'

set_option maxRecDepth 4096 in
/-- The tasks' columns joined: the actions, each the merge of its column. -/
theorem td_join (d : Dev nD) : (bigSep Finset.univ fun i : Fin 16 => tdPts m d i) ⊢ (dnPts m d : sProp 𝕄) := by
  unfold tdPts
  refine (bigSep_exists_pi Finset.univ (fun i (f : Buf (Elt F) (acLoc d)) =>
    iprop(⌜∀ j ∈ rowSet i, AGood (xA m d) (wA m d) (bA m d) j (f j)⌝ ∗ acLoc d ↦[rowSet i]{fullShare} f))).trans ?_
  iintro ⟨%fs, H⟩
  have : Nonempty (Buf (Elt F) (acLoc d)) := ⟨fs 0⟩
  ihave H1 := (bigSep_pure_sep Finset.univ (fun i => ∀ j ∈ rowSet i, AGood (xA m d) (wA m d) (bA m d) j (fs i j)) (fun i => (acLoc d ↦[rowSet i]{fullShare} fs i : sProp 𝕄))) $$ H
  icases H1 with ⟨%hg, H⟩
  ihave H' := (pointsTo_biUnion_join (ℓ := acLoc d) (q := fullShare) (Val := Elt F) Finset.univ rowSet fs (fs 0) rowSets_disjoint) $$ H
  icases H' with ⟨%g, %hgf, Hg⟩
  rw [rowSets_cover]
  unfold dnPts
  iexists g; isplitr
  · ipureintro
    intro j
    obtain ⟨i, -, hi⟩ := Finset.mem_biUnion.mp (rowSets_cover ▸ Finset.mem_univ j)
    rw [hgf i (Finset.mem_univ _) j hi]
    exact hg i (Finset.mem_univ _) j hi
  · iexact Hg

theorem vecSplit : (K (F := F)).VecSplit' (P m) 0 := by
  intro d c
  show stPts m d ⊢ |={Set.univ}=> iprop(
      (bigSep Finset.univ fun i : Fin ((K (F := F)).nSub 0) => goPts m d (Fin.cast nSub_zero i))
      ∗ ((bigSep Finset.univ fun i : Fin ((K (F := F)).nSub 0) => tdPts m d (Fin.cast nSub_zero i)) -∗ dnPts m d))
  rw [bigSep_tasks (F := F) (fun i => goPts m d i), bigSep_tasks (F := F) (fun i => tdPts m d i)]
  iintro H; imodintro
  isplitl [H]; · iapply (st_split m d); iexact H
  iintro H
  iapply (td_join m d); iexact H

/-! ## The launch element of the ghost state -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- A device's share of the pipeline's launch ghost state. -/
abbrev GP (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  unfold u₀
  iintro Hu
  ihave H := (ownU_split _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · rw [show (bigSep Finset.univ fun d : Dev nD => GP (F := F) d) = iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄))) from by
        rw [bigSep_sep']
        exact congrArg₂ _ (bigSep_congr fun c _ => (bigSep_univ_of_subsingleton (Φ := fun p => (Pipeline.cellsGhost (Pipeline.pin (pcfgs (F := F)) adm) EP p c : sProp 𝕄)) (0 : Fin 1)).symm)
          (bigSep_congr fun c _ => (bigSep_univ_of_subsingleton (Φ := fun p => (Pipeline.toksInit (Pipeline.pin (pcfgs (F := F)) adm) EP p c : sProp 𝕄)) (0 : Fin 1)).symm)]
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop(hb d main_arg0 (W _) ∗ hb d main_arg1 (W _) ∗ hb d main_arg2 (W _)
      ∗ hb d main_v0_0 (W _) ∗ hb d main_v0_1 (W _) ∗ hb d main_v0_2 (W _) ∗ hb d main_v1 (W _) ∗ hb d main_v2 (W _)) := by
  unfold unscopedBufs
  rw [show (Finset.univ.filter fun b : Ref sig .tc => ¬ b.isScoped) = {main_arg0, main_arg1, main_arg2, main_v0_0, main_v0_1, main_v0_2, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem st0_eq (d : Dev nD) : (bigSep Finset.univ fun c : Fin ((K (F := F)).nCore 0) => (P m).st 0 d c) = stPts m d :=
  bigSep_univ_of_subsingleton (0 : Fin 1)
theorem dn0_eq (d : Dev nD) : (bigSep Finset.univ fun c : Fin ((K (F := F)).nCore 0) => (P m).dn 0 d c) = dnPts m d :=
  bigSep_univ_of_subsingleton (0 : Fin 1)

/-- The values: the logits transposed. -/
def trV (f : S100000x128.Idx → Elt F .f32) : S128x100000.Idx → Elt F .f32 :=
  transpose S128x100000 [1, 0] f transposes_S100000x128_S128x100000_1_0

/-- The host's transpose. -/
abbrev opTr : HloOp τ sig (Elt F) :=
  StableHlo.unary main_v0_0 main_v2 ((transpose S128x100000 [1, 0] · transposes_S100000x128_S128x100000_1_0) : (⟨S100000x128, .f32⟩ : BufTy).Contents (Elt F) → (⟨S128x100000, .f32⟩ : BufTy).Contents (Elt F))

abbrev lRef : DevRef τ sig := Proc.devRef .tc main_v0_0
abbrev vRef : DevRef τ sig := Proc.devRef .tc main_v2
abbrev S2 : Finset (DevRef τ sig) := {lRef, vRef}

theorem opTr_sub : (opTr (F := F)).bufs ⊆ S2 := show ({lRef, vRef} : Finset (DevRef τ sig)) ⊆ S2 by decide

/-- The launch valuation with the logits at `f`. -/
def V1 (d : Dev nD) (f : S100000x128.Idx → Elt F .f32) : Valuation τ sig (Elt F) := Function.update (fun b => m (d, b)) lRef f

theorem held_V1 (d : Dev nD) (f) : (held (SparseCore.T d) S2 (V1 m d f) : sProp 𝕄) = iprop(hb d main_v0_0 f ∗ hb d main_v2 (m _)) := by
  unfold held
  rw [SparseCore.bigSep_insert' (by decide), bigSep_singleton]
  rw [show V1 m d f lRef = f from Function.update_self _ _ _, show V1 m d f vRef = m (d, vRef) from Function.update_of_ne (show vRef ≠ lRef by decide) _ _]

theorem held_V2 (d : Dev nD) (f) : (held (SparseCore.T d) S2 ((opTr (F := F)).result (V1 m d f)) : sProp 𝕄)
    = iprop(hb d main_v0_0 f ∗ hb d main_v2 (trV f)) := by
  unfold held
  rw [SparseCore.bigSep_insert' (by decide), bigSep_singleton]
  rw [show (opTr (F := F)).result (V1 m d f) lRef = f from
      ((opTr (F := F)).result_of_not_mem (V1 m d f) (b := lRef) (show lRef ∉ ({vRef} : Finset (DevRef τ sig)) by decide)).trans (Function.update_self _ _ _),
    show (opTr (F := F)).result (V1 m d f) vRef = trV f from
      (StableHlo.unary_result _ _ _ _ _ _).trans (congrArg trV (Function.update_self _ _ _))]

/-- What @main leaves: the arguments as they were, the actions and the values. -/
abbrev FIN (d : Dev nD) : sProp 𝕄 :=
  iprop(hb d main_arg0 (m _) ∗ hb d main_arg1 (m _) ∗ hb d main_arg2 (m _)
    ∗ dnPts m d ∗ ∃ f, ⌜ValsOK (xA m d) (wA m d) (bA m d) f⌝ ∗ hb d main_v2 (trV f))

/-- @main on device `d`'s TensorCore: the region, the SparseCore call, the transpose. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, H0, H1, H2, Hac, Hv⟩, Hts, -⟩, Hg, Htk⟩
  ihave Hlv := (SparseCore.Cfg.ctx_levAts (K := K (F := F)) (EH := EH) (P := P m) κ) $$ Hctx
  ihave Hst' := (Entails.of_eq (show (K (F := F)).tcSt EH d 0 = iprop(_ ∗ _) from rfl)) $$ Hst
  icases Hst' with ⟨HO, Hst⟩
  iapply ((K (F := F)).wp_liftProg (D (F := F)) 𝒱 (SparseCore.T d) Set.univ none (Prog.lift (.customCall (Pipeline.entry 0) ())) _)
  iapply (Pipeline.RDat.RegionSeg.wp (pcfgs (F := F)) adm (rdats m) (none : HIx 1) cellOf_inj EP (defs₀ (F := F)) 𝒱₀ (K (F := F)).L (K (F := F)).lev (reg0 m) d none (fun _ h => nomatch h) _ _)
  isplitr [Hb Ha0 Ha1 Ha2 H0 H1 H2 HO Hg Htk]
  swap
  · isplitl [Hb]; · iexact Hb
    isplitl [Ha0 Ha1 Ha2 H0 H1 H2 HO]
    · iapply (show regPre m d ⊢ (reg0 m).pre d from .rfl)
      unfold regPre
      isplitl [Ha0]; · iexact Ha0
      isplitl [Ha1]; · iexact Ha1
      isplitl [Ha2]; · iexact Ha2
      isplitl [H0]; · iexact H0
      isplitl [H1]; · iexact H1
      isplitl [H2]; · iexact H2
      iexact HO
    isplitr; · iexact Hlv
    isplitl [Hg]; · iexact Hg
    iexact Htk
  iintro ⟨Hb, Hpost⟩
  ihave Hp := (show (reg0 m).post d ⊢ regPost m d from .rfl) $$ Hpost
  unfold regPost
  icases Hp with ⟨Ha0, Ha1, Ha2, ⟨%f0, %e0, H0⟩, ⟨%f1, %e1, H1⟩, ⟨%f2, %e2, H2⟩, HO⟩
  rw [wp_ret]; imodintro
  -- the SparseCore call
  iapply ((K (F := F)).wp_run (D (F := F)) 𝒱 (EH := EH) (P := P m) κ d 0) $$ [Hst HO H1 H2 Hac Hb Ha0 Ha1 Ha2 H0 Hv Hts]
  isplitr; · iexact Hctx
  isplitl [Hst HO]
  · iapply (show iprop(_ ∗ _) ⊢ (K (F := F)).tcSt EH d 0 from .rfl)
    isplitl [HO]; · iexact HO
    iexact Hst
  isplitl [H1 H2 Hac]
  · rw [st0_eq]; unfold stPts
    iexists f1; iexists f2
    isplitr; · ipureintro; exact ⟨e1, e2⟩
    isplitl [H1]; · iexact H1
    isplitl [H2]; · iexact H2
    iexact Hac
  iintro ⟨Hst, Hdn⟩
  ihave Hdn' := (Entails.of_eq (dn0_eq m d)) $$ Hdn
  -- the transpose
  iapply (wp_hlo_within 𝒱 (SparseCore.T d) none Set.univ (op := opTr) (S := S2) opTr_sub (V := V1 m d f0)) $$ [Hb H0 Hv]
  · isplitl [Hb]; · iexact Hb
    rw [held_V1]
    isplitl [H0]; · iexact H0
    iexact Hv
  iintro ⟨Hb, Hheld⟩
  ihave Hh := (Entails.of_eq (held_V2 (F := F) m d f0)) $$ Hheld
  icases Hh with ⟨-, Hv⟩
  rw [wp_ret]; imodintro; imodintro
  isplitl [Hst]; · iexact Hst
  isplitr [Hb Hts]
  · isplitl [Ha0]; · iexact Ha0
    isplitl [Ha1]; · iexact Ha1
    isplitl [Ha2]; · iexact Ha2
    isplitl [Hdn']; · iexact Hdn'
    iexists f0; isplitr; · ipureintro; exact e0
    iexact Hv
  isplitl [Hb] <;> iassumption

/-! ## The run -/

/-- What a device's memory holds at the end. -/
def fq (d : Dev nD) (s' : MemSt nD τ sig (Elt F)) : Prop :=
  (s'.mem ((SparseCore.T d).loc main_arg0) = m _ ∧ s'.mem ((SparseCore.T d).loc main_arg1) = m _ ∧ s'.mem ((SparseCore.T d).loc main_arg2) = m _)
    ∧ (∀ j, AGood (xA m d) (wA m d) (bA m d) j (s'.mem ((SparseCore.T d).loc main_v1) j))
    ∧ ∃ f, ValsOK (xA m d) (wA m d) (bA m d) f ∧ s'.mem ((SparseCore.T d).loc main_v2) = trV f

/-- A buffer held whole is what the memory holds. -/
theorem agree (d : Dev nD) (b : Ref sig .tc) (f : Buf (Elt F) ((SparseCore.T d).loc b)) (s' : Phys nD τ sig (Elt F)) :
    iprop(SI s' ∗ hb d b f) ⊢ (iprop(⌜s'.mem.mem ((SparseCore.T d).loc b) = f⌝ ∗ SI s') : sProp 𝕄) := by
  iintro H
  ihave H := (persistent_entails_right (SI_pointsTo_agree (st := s') (ℓ := (SparseCore.T d).loc b) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'.mem⌝ : sProp 𝕄) := by
  unfold FIN dnPts
  iintro ⟨⟨H0, H1, H2, ⟨%f, %ef, Ha⟩, ⟨%g, %eg, Hv⟩⟩, HSI⟩
  ihave H := (agree (F := F) d main_arg0 _ s') $$ [HSI H0]; · isplitl [HSI]; · iexact HSI
                                                              iexact H0
  icases H with ⟨%h0, HSI⟩
  ihave H := (agree (F := F) d main_arg1 _ s') $$ [HSI H1]; · isplitl [HSI]; · iexact HSI
                                                              iexact H1
  icases H with ⟨%h1, HSI⟩
  ihave H := (agree (F := F) d main_arg2 _ s') $$ [HSI H2]; · isplitl [HSI]; · iexact HSI
                                                              iexact H2
  icases H with ⟨%h2, HSI⟩
  ihave H := (agree (F := F) d main_v1 f s') $$ [HSI Ha]; · isplitl [HSI]; · iexact HSI
                                                            iexact Ha
  icases H with ⟨%h3, HSI⟩
  ihave H := (agree (F := F) d main_v2 _ s') $$ [HSI Hv]; · isplitl [HSI]; · iexact HSI
                                                            iexact Hv
  icases H with ⟨%h4, HSI⟩
  ipureintro
  exact ⟨⟨h0, h1, h2⟩, fun j => by rw [h3]; exact ef j, g, eg, h4⟩

def QC : PUnit × MemSt nD τ sig (Elt F) → Prop := fun r => (∀ d : Dev nD, fq m d r.2) ∧ r.2.sem = fun _ => 0

/-- The program's run, at any float values: the arguments kept, each action a merge of its column of tables of tile maxima and
    argmaxima, the values a transpose of tile-by-tile logits, every semaphore zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => GP (F := F) d) (FIN m) (u₀ (F := F)) (sep_elim_left.trans (hu₀ m)) (hmain m ρ) (fun d s' => fq m d s'.mem) (hfin m) (QC m)
    (fun _ h hz => ⟨h, hz⟩)

end Cert.KernelIdeal.Hand

end
-- ==== Proof.Frames.lean ====
/-
  The three frames, each read off its program's run.
-/
module

public import proofs.«01_k».proof.Proof.Run
public import proofs.«01_k».proof.Proof.Reference
public import proofs.«01_k».proof.Proof.Gen.Kernel
public import Idealize.ShloMosaic.PureOps.BitExact

@[expose] public section

noncomputable section

namespace Cert.Proof

open Idealize.ShloMosaic Idealize.SL.Sem Cert.Kernel.Gen Cert.KernelIdeal.Gen Cert.ReferenceIdeal.Gen

/-- The kernel's text, over any floats, runs to its end, leaves its arguments as they were and every semaphore zero. -/
theorem frame_run {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (Cert.KernelIdeal.threads (F := F)) ⟨m, fun _ => 0, g⟩
      (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2))
        ∧ r.2.sem = fun _ => 0) :=
  θ_run_mono (Cert.KernelIdeal.Hand.run_main (F := F) m g) fun _ h => ⟨fun c => (h.1 c).1, h.2⟩

/-- The kernel as written and the kernel read over the extended reals have the same text: the same bodies, -/
theorem bodies_eq {F : FTy → Type} [FloatOps F] : Cert.Kernel.defs₀ (F := F) = Cert.KernelIdeal.defs₀ (F := F) := by
  funext p ℓ a
  match p, ℓ, a with
  | .tc, 0, _ => rfl
  | .tc, 1, _ => rfl
  | .scScalar _, 0, _ => rfl
  | .scScalar _, 1, _ => rfl
  | .scVector _ _, 0, _ => rfl
  | .scVector _ _, 1, _ => rfl

/-- and so the same body table. -/
theorem defs_eq {F : FTy → Type} [FloatOps F] : Cert.Kernel.defs (F := F) = Cert.KernelIdeal.defs (F := F) := by
  unfold Cert.Kernel.defs Cert.KernelIdeal.defs
  rw [bodies_eq]
  rfl

/-- The kernel as written does so on the machine's own floats. -/
theorem frame_kernel : Cert.quiescent_Kernel := fun m g _ => by
  have h := frame_run (F := Bits) m g
  rw [← defs_eq] at h
  exact h

/-- It does so on the extended reals. -/
theorem frame_kernelIdeal : Cert.quiescent_KernelIdeal := fun m g _ => frame_run (F := Ideal) m g

/-- So does the reference. -/
theorem frame_referenceIdeal : Cert.quiescent_ReferenceIdeal := fun m g _ =>
  θ_run_mono (Cert.ReferenceIdeal.Hand.run_main m g) fun _ h => ⟨fun c => (h.1 c).2.2, h.2⟩

end Cert.Proof

end
-- ==== Proof.Value.lean ====
/-
  The two results of the kernel and of the reference over the extended reals are equal: the values element by element, and the actions
  because both are the first index at which a row's values are greatest.
-/
module

public import proofs.«01_k».proof.Proof.RefValue
public import proofs.«01_k».proof.Proof.Frames

@[expose] public section

noncomputable section

namespace Cert.KernelIdeal.Hand

open Cert.KernelIdeal Cert.KernelIdeal.Gen
open Idealize.ShloMosaic Cert.Argmax

variable (x : S128x64.Idx → EReal) (W : S64x100000.Idx → EReal) (b : S100000.Idx → EReal)

/-! ## The kernel's actions -/

/-- A tile's entry of the two tables: the maximum and the argmaximum of the tile's column. -/
theorem entry_first (pm : S13x1x128.Idx → EReal) (pi : S13x1x128.Idx → BitVec 32) (hm : MaxOK (F := Ideal) x W b pm)
    (hi : ArgOK (F := Ideal) x W b pi) (t : Fin 13) (j : Fin 128) :
    ∃ n, pi (ix3 t 0 j) = BitVec.ofNat 32 n
      ∧ IsFirst (col x W b j) (t.val * 8192) ((t.val + 1) * 8192) (pm (ix3 t 0 j)) n := by
  obtain ⟨t1, y1, X1, ⟨d0, d1, d2, rfl⟩, h0, h1, hV⟩ := hm (ix3 t 0 j)
  obtain ⟨t2, y2, X2, ⟨e0, e1, e2, rfl⟩, g0, g1, gV⟩ := hi (ix3 t 0 j)
  have h0 : t.val = t1.val := h0
  have g0 : t.val = t2.val := g0
  have ey : ∀ y : S1x1x128.Idx, j.val = (y 2).val → y = ix3 0 0 j := fun y hy => by
    rw [eq_ix3 y]
    have e0 : y 0 = (0 : Fin 1) := Subsingleton.elim (α := Fin 1) _ _
    have e1 : y 1 = (0 : Fin 1) := Subsingleton.elim (α := Fin 1) _ _
    have e2 : y 2 = j := Fin.ext hy.symm
    rw [e0, e1, e2]
  obtain rfl : t1 = t2 := Fin.ext (h0.symm.trans g0)
  rw [hV, gV, ey y1 h1, ey y2 g1, h0]
  exact tile_apply x W b t1 d0 e0 d1 e1 d2 e2 0 0 j

/-- The merge of tiles `0 … t` finds the first index at which the column is greatest in them. -/
theorem mergeAt_first (V : ℕ → EReal) (f : ℕ → EReal) (g : ℕ → BitVec 32) (N : ℕ)
    (h : ∀ t ≤ N, ∃ n, g t = BitVec.ofNat 32 n ∧ IsFirst V (t * 8192) ((t + 1) * 8192) (f t) n) :
    ∀ t ≤ N, ∃ n, (mergeAt (F := Ideal) f g t).2 = BitVec.ofNat 32 n ∧ IsFirst V 0 ((t + 1) * 8192) (mergeAt (F := Ideal) f g t).1 n := by
  intro t
  induction t with
  | zero =>
    intro ht
    obtain ⟨n, h1, h2⟩ := h 0 ht
    refine ⟨n, h1, ?_⟩
    rw [Nat.zero_mul] at h2
    exact h2
  | succ t ih =>
    intro ht
    obtain ⟨n, h1, h2⟩ := ih (by omega)
    obtain ⟨s, g1, g2⟩ := h (t + 1) ht
    by_cases hlt : (mergeAt (F := Ideal) f g t).1 < f (t + 1)
    · refine ⟨s, ?_⟩
      have e : mergeAt (F := Ideal) f g (t + 1) = (f (t + 1), g (t + 1)) := by
        simp [mergeAt, Ideal.cmpf_def, Ideal.cmp, hlt]
      rw [e]
      exact ⟨g1, h2.take g2 hlt⟩
    · refine ⟨n, ?_⟩
      have e : mergeAt (F := Ideal) f g (t + 1) = mergeAt (F := Ideal) f g t := by
        simp [mergeAt, Ideal.cmpf_def, Ideal.cmp, hlt]
      rw [e]
      exact ⟨h1, h2.keep g2 hlt⟩

/-- An action of the kernel is the first column at which the row's values are greatest. -/
theorem merged_first (pm : S13x1x128.Idx → EReal) (pi : S13x1x128.Idx → BitVec 32) (hm : MaxOK (F := Ideal) x W b pm)
    (hi : ArgOK (F := Ideal) x W b pi) (j : Fin 128) :
    ∃ v n, merged (F := Ideal) pm pi (ix1 j) = BitVec.ofNat 32 n ∧ IsFirst (col x W b j) 0 106496 v n := by
  obtain ⟨n, h1, h2⟩ := mergeAt_first (col x W b j) (fun t => pm (tix t (ix1 j))) (fun t => pi (tix t (ix1 j))) 12 (fun t ht => by
    have e : tix t (ix1 j) = ix3 (⟨t, by omega⟩ : Fin 13) 0 j := by
      rw [eq_ix3 (tix t (ix1 j))]
      congr 1
      exact Fin.ext (Nat.mod_eq_of_lt (by omega))
    show ∃ n, pi (tix t (ix1 j)) = _ ∧ IsFirst _ _ _ (pm (tix t (ix1 j))) n
    rw [e]
    exact entry_first x W b pm pi hm hi ⟨t, by omega⟩ j) 12 le_rfl
  exact ⟨_, n, h1, h2⟩

end Cert.KernelIdeal.Hand

namespace Cert.ReferenceIdeal.Hand

open Cert.ReferenceIdeal Cert.ReferenceIdeal.Gen
open Idealize.ShloMosaic Cert.Argmax

variable (x : S128x64.Idx → EReal) (W : S64x100000.Idx → EReal) (b : S100000.Idx → EReal)

/-! ## The two programs' results -/

/-- The kernel's transposed logits are the reference's values. -/
theorem values_eq (f : (⟨2, ![100000, 128]⟩ : Shape).Idx → EReal) (h : Cert.KernelIdeal.Hand.ValsOK (F := Ideal) x W b f) :
    Cert.KernelIdeal.Hand.trV (F := Ideal) f = refVals x W b := by
  funext i
  obtain ⟨j, n, rfl⟩ : ∃ (j : Fin 128) (n : Fin 100000), i = ix2 j n := ⟨i 0, i 1, eq_ix2 i⟩
  rw [refVals_apply, ← Cert.KernelIdeal.Hand.valsOK_apply x W b f h n j]
  pointwise [Cert.KernelIdeal.Hand.trV]

/-- The kernel's actions are the reference's. -/
theorem actions_eq (A : S128.Idx → BitVec 32) (h : ∀ i, Cert.KernelIdeal.Hand.AGood (F := Ideal) x W b i (A i)) :
    A = refActs (refVals x W b) := by
  funext i
  obtain ⟨j, rfl⟩ : ∃ j : Fin 128, i = ix1 j := ⟨i 0, eq_ix1 i⟩
  obtain ⟨pm, pi, hm, hi, e⟩ := h (ix1 j)
  obtain ⟨v, n, e1, h1⟩ := Cert.KernelIdeal.Hand.merged_first x W b pm pi hm hi j
  obtain ⟨w, s, e2, h2⟩ := refActs_first x W b j
  rw [e, e1, e2, h1.unique (h2.extend (by omega) fun n hn => dif_neg (by omega))]

end Cert.ReferenceIdeal.Hand

namespace Cert.Proof

open Idealize.ShloMosaic Idealize.SL.Sem Cert.KernelIdeal.Gen Cert.ReferenceIdeal.Gen
open Cert.ReferenceIdeal.Hand (refActs refVals values_eq actions_eq)

/-- From the same arguments, over the extended reals, the kernel and the reference end with equal actions and equal values. -/
theorem algebraic : Cert.algebraic_KernelIdeal_ReferenceIdeal := by
  intro m g m' g' _ hagree
  refine ⟨fun c => refActs (refVals (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    fun c => refVals (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine θ_run_mono (Cert.KernelIdeal.Hand.run_main (F := Ideal) m g) fun r h c => ?_
    obtain ⟨hargs, hacts, f, hf, hvals⟩ := h.1 c
    exact ⟨actions_eq _ _ _ _ hacts, hvals.trans (values_eq _ _ _ f hf), hargs⟩
  · refine θ_run_mono (Cert.ReferenceIdeal.Hand.run_main m' g') fun r h c => ?_
    obtain ⟨h4, h3, hargs⟩ := h.1 c
    obtain ⟨a0, a1, a2⟩ := hagree c
    rw [a0, a1, a2] at h4 h3
    exact ⟨h4, h3, hargs⟩

end Cert.Proof

end
-- ==== Proof.lean ====
/-
  The proof of `Cert.Claim`: the frames of the kernel, of the kernel over the extended reals and of the reference, the kernel kept
  unrewritten, and the two programs' results equal over the extended reals.
-/
module

public import proofs.«01_k».proof.Defs
public import proofs.«01_k».proof.Proof.Value

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
